-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_nonneg_finite [hPre_scales_nonneg_finite : Cert.Pre_scales_nonneg_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scales_nonneg_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_nonneg_finite [hPre_scales_nonneg_finite : Cert.Pre_scales_nonneg_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_nonneg_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_scales_nonneg_finite [hKernelIdeal : Cert.KernelIdeal.Facts] [hPre_scales_nonneg_finite : Cert.Pre_scales_nonneg_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_nonneg_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_scales_nonneg_finite [hReferenceIdeal : Cert.ReferenceIdeal.Facts] [hPre_scales_nonneg_finite : Cert.Pre_scales_nonneg_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_nonneg_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_scales_nonneg_finite [hKernelIdeal : Cert.KernelIdeal.Facts] [hReferenceIdeal : Cert.ReferenceIdeal.Facts] [hPre_scales_nonneg_finite : Cert.Pre_scales_nonneg_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_nonneg_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_scales_nonneg_finite : Cert.Pre_scales_nonneg_finite.Facts),
    quiescent_Kernel (hKernel := hKernel)
    ∧ quiescent_KernelIdeal (hKernelIdeal := hKernelIdeal)
    ∧ quiescent_KernelIdeal_pre_scales_nonneg_finite (hKernelIdeal := hKernelIdeal) (hPre_scales_nonneg_finite := hPre_scales_nonneg_finite)
    ∧ quiescent_ReferenceIdeal (hReferenceIdeal := hReferenceIdeal)
    ∧ quiescent_ReferenceIdeal_pre_scales_nonneg_finite (hReferenceIdeal := hReferenceIdeal) (hPre_scales_nonneg_finite := hPre_scales_nonneg_finite)
    ∧ preserves_Kernel_KernelIdeal
    ∧ algebraic_KernelIdeal_ReferenceIdeal_pre_scales_nonneg_finite (hKernelIdeal := hKernelIdeal) (hReferenceIdeal := hReferenceIdeal) (hPre_scales_nonneg_finite := hPre_scales_nonneg_finite)
-- ==== Pre_scales_nonneg_finite.lean ====
abbrev S6x256x14x192 : Shape := ⟨4, ![6, 256, 14, 192]⟩
abbrev S6x4x14 : Shape := ⟨3, ![6, 4, 14]⟩
abbrev S6x256x2x192 : Shape := ⟨4, ![6, 256, 2, 192]⟩
abbrev S6x4x2 : Shape := ⟨3, ![6, 4, 2]⟩
abbrev S6x256x2x384 : Shape := ⟨4, ![6, 256, 2, 384]⟩
abbrev S6x256x14x384 : Shape := ⟨4, ![6, 256, 14, 384]⟩
abbrev S6x256x14 : Shape := ⟨3, ![6, 256, 14]⟩
abbrev S48 : Shape := ⟨1, ![48]⟩
abbrev S21504 : Shape := ⟨1, ![21504]⟩
abbrev S21600 : Shape := ⟨1, ![21600]⟩
abbrev S_ : Shape := ⟨0, ![]⟩

class Facts : Prop where
  shapeCasts_S6x4x2_S48 : S6x4x2.ShapeCasts S48
  shapeCasts_S6x256x14_S21504 : S6x256x14.ShapeCasts S21504
  concatenates_S48_S48_S21504_S21600_d0 : Shape.Concatenates [S48, S48, S21504] S21600 0
  bcast_S_S21600 : S_.BroadcastsInDim S21600 (![] : Fin 0 → Fin S21600.rank)

variable [Facts]

def fn {F : FTy → Type} [FloatOps F] (main_arg0 : FVec F S6x256x14x192 .fp8e4m3) (main_arg1 : FVec F S6x4x14 .f32) (main_arg2 : FVec F S6x256x2x192 .fp8e4m3) (main_arg3 : FVec F S6x4x2 .f32) (main_arg4 : FVec F S6x256x2x384 .fp8e4m3) (main_arg5 : FVec F S6x4x2 .f32) (main_arg6 : FVec F S6x256x14x384 .fp8e5m2) (main_arg7 : FVec F S6x256x14 .f32) : IVec S21600 1 :=
  let main_v0 : FVec F S48 .f32 := shapeCast S48 main_arg3 shapeCasts_S6x4x2_S48
  let main_v1 : FVec F S48 .f32 := shapeCast S48 main_arg5 shapeCasts_S6x4x2_S48
  let main_v2 : FVec F S21504 .f32 := shapeCast S21504 main_arg7 shapeCasts_S6x256x14_S21504
  let main_v3 : FVec F S21600 .f32 := concatenate S21600 0 [⟨S48, main_v0⟩, ⟨S48, main_v1⟩, ⟨S21504, main_v2⟩] concatenates_S48_S48_S21504_S21600_d0
  let main_cst : FVec F S_ .f32 := constant S_ .f32 0x00000000#32
  let main_v4 : FVec F S21600 .f32 := broadcastInDim S21600 ![] bcast_S_S21600 main_cst
  let main_v5 : IVec S21600 1 := cmpf .oge main_v3 main_v4
  let main_cst_0 : FVec F S_ .f32 := constant S_ .f32 0x7F800000#32
  let main_v6 : FVec F S21600 .f32 := broadcastInDim S21600 ![] bcast_S_S21600 main_cst_0
  let main_v7 : IVec S21600 1 := cmpf .olt main_v3 main_v6
  let main_v8 : IVec S21600 1 := andi main_v5 main_v7
  main_v8
-- ==== Kernel.lean ====
abbrev S6x256x14x192 : Shape := ⟨4, ![6, 256, 14, 192]⟩
abbrev S6x4x14 : Shape := ⟨3, ![6, 4, 14]⟩
abbrev S6x256x2x192 : Shape := ⟨4, ![6, 256, 2, 192]⟩
abbrev S6x4x2 : Shape := ⟨3, ![6, 4, 2]⟩
abbrev S6x256x2x384 : Shape := ⟨4, ![6, 256, 2, 384]⟩
abbrev S6x256x14x384 : Shape := ⟨4, ![6, 256, 14, 384]⟩
abbrev S6x256x14 : Shape := ⟨3, ![6, 256, 14]⟩
abbrev S6x14x192x256 : Shape := ⟨4, ![6, 14, 192, 256]⟩
abbrev S6x2x192x256 : Shape := ⟨4, ![6, 2, 192, 256]⟩
abbrev S6x2x256x384 : Shape := ⟨4, ![6, 2, 256, 384]⟩
abbrev S6x14x256x384 : Shape := ⟨4, ![6, 14, 256, 384]⟩
abbrev S6x14x256 : Shape := ⟨3, ![6, 14, 256]⟩
abbrev S4x2x6 : Shape := ⟨3, ![4, 2, 6]⟩
abbrev S1x7x192x256 : Shape := ⟨4, ![1, 7, 192, 256]⟩
abbrev S1x1x192x256 : Shape := ⟨4, ![1, 1, 192, 256]⟩
abbrev S1x1x256x384 : Shape := ⟨4, ![1, 1, 256, 384]⟩
abbrev S1x7x256x384 : Shape := ⟨4, ![1, 7, 256, 384]⟩
abbrev S1x14x256 : Shape := ⟨3, ![1, 14, 256]⟩
abbrev S1x128 : Shape := ⟨2, ![1, 128]⟩
abbrev S1x1x256 : Shape := ⟨3, ![1, 1, 256]⟩
abbrev S1x256 : Shape := ⟨2, ![1, 256]⟩
abbrev S1x1x1 : Shape := ⟨3, ![1, 1, 1]⟩
abbrev S192x256 : Shape := ⟨2, ![192, 256]⟩
abbrev S256x192 : Shape := ⟨2, ![256, 192]⟩
abbrev S256x384 : Shape := ⟨2, ![256, 384]⟩
abbrev S192x64 : Shape := ⟨2, ![192, 64]⟩
abbrev S64x384 : Shape := ⟨2, ![64, 384]⟩
abbrev S192x384 : Shape := ⟨2, ![192, 384]⟩
abbrev S64x128 : Shape := ⟨2, ![64, 128]⟩
abbrev S1x1x192x64 : Shape := ⟨4, ![1, 1, 192, 64]⟩
abbrev S192x448 : Shape := ⟨2, ![192, 448]⟩
abbrev S1x64 : Shape := ⟨2, ![1, 64]⟩
abbrev S1x448 : Shape := ⟨2, ![1, 448]⟩
abbrev S64x192 : Shape := ⟨2, ![64, 192]⟩
abbrev S64x448 : Shape := ⟨2, ![64, 448]⟩
abbrev S64x512 : Shape := ⟨2, ![64, 512]⟩
abbrev S1x1x64x384 : Shape := ⟨4, ![1, 1, 64, 384]⟩
abbrev S448x384 : Shape := ⟨2, ![448, 384]⟩
abbrev S128x384 : Shape := ⟨2, ![128, 384]⟩
abbrev S448x128 : Shape := ⟨2, ![448, 128]⟩
abbrev S448x512 : Shape := ⟨2, ![448, 512]⟩
abbrev S192x128 : Shape := ⟨2, ![192, 128]⟩
abbrev S192x512 : Shape := ⟨2, ![192, 512]⟩
abbrev S448x192 : Shape := ⟨2, ![448, 192]⟩
abbrev S256x448 : Shape := ⟨2, ![256, 448]⟩
abbrev S256x512 : Shape := ⟨2, ![256, 512]⟩
abbrev S1x1x192x128 : Shape := ⟨4, ![1, 1, 192, 128]⟩
abbrev S128x192 : Shape := ⟨2, ![128, 192]⟩

abbrev nBuf : Space → Nat
  | .hbm => 21
  | .vmem => 16
  | .smem => 3
  | _ => 0

abbrev bufTy : (tb : Table) → Fin (tcTables nBuf tb) → BufTy
  | .hbm, ⟨0, _⟩ => ⟨S6x256x14x192, .fp8e4m3⟩
  | .hbm, ⟨1, _⟩ => ⟨S6x4x14, .f32⟩
  | .hbm, ⟨2, _⟩ => ⟨S6x256x2x192, .fp8e4m3⟩
  | .hbm, ⟨3, _⟩ => ⟨S6x4x2, .f32⟩
  | .hbm, ⟨4, _⟩ => ⟨S6x256x2x384, .fp8e4m3⟩
  | .hbm, ⟨5, _⟩ => ⟨S6x4x2, .f32⟩
  | .hbm, ⟨6, _⟩ => ⟨S6x256x14x384, .fp8e5m2⟩
  | .hbm, ⟨7, _⟩ => ⟨S6x256x14, .f32⟩
  | .hbm, ⟨8, _⟩ => ⟨S6x14x192x256, .fp8e4m3⟩
  | .hbm, ⟨9, _⟩ => ⟨S6x2x192x256, .fp8e4m3⟩
  | .hbm, ⟨10, _⟩ => ⟨S6x2x256x384, .fp8e4m3⟩
  | .hbm, ⟨11, _⟩ => ⟨S6x14x256x384, .fp8e5m2⟩
  | .hbm, ⟨12, _⟩ => ⟨S6x14x256, .f32⟩
  | .hbm, ⟨13, _⟩ => ⟨S4x2x6, .f32⟩
  | .hbm, ⟨14, _⟩ => ⟨S4x2x6, .f32⟩
  | .hbm, ⟨15, _⟩ => ⟨S6x14x192x256, .bf16⟩
  | .hbm, ⟨16, _⟩ => ⟨S6x2x192x256, .bf16⟩
  | .hbm, ⟨17, _⟩ => ⟨S6x2x256x384, .bf16⟩
  | .hbm, ⟨18, _⟩ => ⟨S6x256x14x192, .bf16⟩
  | .hbm, ⟨19, _⟩ => ⟨S6x256x2x192, .bf16⟩
  | .hbm, ⟨20, _⟩ => ⟨S6x256x2x384, .bf16⟩
  | .local _ .vmem, ⟨0, _⟩ => ⟨S1x7x192x256, .fp8e4m3⟩
  | .local _ .vmem, ⟨1, _⟩ => ⟨S1x7x192x256, .fp8e4m3⟩
  | .local _ .vmem, ⟨2, _⟩ => ⟨S1x1x192x256, .fp8e4m3⟩
  | .local _ .vmem, ⟨3, _⟩ => ⟨S1x1x192x256, .fp8e4m3⟩
  | .local _ .vmem, ⟨4, _⟩ => ⟨S1x1x256x384, .fp8e4m3⟩
  | .local _ .vmem, ⟨5, _⟩ => ⟨S1x1x256x384, .fp8e4m3⟩
  | .local _ .vmem, ⟨6, _⟩ => ⟨S1x7x256x384, .fp8e5m2⟩
  | .local _ .vmem, ⟨7, _⟩ => ⟨S1x7x256x384, .fp8e5m2⟩
  | .local _ .vmem, ⟨8, _⟩ => ⟨S1x14x256, .f32⟩
  | .local _ .vmem, ⟨9, _⟩ => ⟨S1x14x256, .f32⟩
  | .local _ .vmem, ⟨10, _⟩ => ⟨S1x7x192x256, .bf16⟩
  | .local _ .vmem, ⟨11, _⟩ => ⟨S1x7x192x256, .bf16⟩
  | .local _ .vmem, ⟨12, _⟩ => ⟨S1x1x192x256, .bf16⟩
  | .local _ .vmem, ⟨13, _⟩ => ⟨S1x1x192x256, .bf16⟩
  | .local _ .vmem, ⟨14, _⟩ => ⟨S1x1x256x384, .bf16⟩
  | .local _ .vmem, ⟨15, _⟩ => ⟨S1x1x256x384, .bf16⟩
  | .local _ .smem, ⟨0, _⟩ => ⟨S6x4x14, .f32⟩
  | .local _ .smem, ⟨1, _⟩ => ⟨S4x2x6, .f32⟩
  | .local _ .smem, ⟨2, _⟩ => ⟨S4x2x6, .f32⟩
  | _, _ => ⟨S6x256x14x192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![6, 2], ![false, false]⟩

def k0_off1 (i : grid0.Coords) (c0_i32 : BitVec 32) : Fin 3 → Nat :=
  let c0 : Index := 0#32
  let arg1 : BitVec 32 := BitVec.ofNat 32 (i 1).val
  let c7_i32 : BitVec 32 := 7#32
  let v3 : BitVec 32 := Scalar.muli arg1 c7_i32
  let v4 : BitVec 32 := Scalar.addi v3 c0_i32
  let v5 : Index := Scalar.indexCast v4
  let c0_0 : Index := 0#32
  ![0, v5.toNat, 0]
def k0_off2 (i : grid0.Coords) (c0_i32_20 : BitVec 32) : Fin 3 → Nat :=
  let arg0 : BitVec 32 := BitVec.ofNat 32 (i 0).val
  let v40 : Index := Scalar.indexCast arg0
  let c0_21 : Index := 0#32
  let arg1 : BitVec 32 := BitVec.ofNat 32 (i 1).val
  let c7_i32_19 : BitVec 32 := 7#32
  let v38 : BitVec 32 := Scalar.muli arg1 c7_i32_19
  let v39 : BitVec 32 := Scalar.addi v38 c0_i32_20
  let v41 : Index := Scalar.indexCast v39
  ![v40.toNat, 0, v41.toNat]
def k0_off3 (i : grid0.Coords) (c0_i32_23 : BitVec 32) : Fin 3 → Nat :=
  let arg0 : BitVec 32 := BitVec.ofNat 32 (i 0).val
  let v45 : Index := Scalar.indexCast arg0
  let c1 : Index := 1#32
  let arg1 : BitVec 32 := BitVec.ofNat 32 (i 1).val
  let c7_i32_22 : BitVec 32 := 7#32
  let v43 : BitVec 32 := Scalar.muli arg1 c7_i32_22
  let v44 : BitVec 32 := Scalar.addi v43 c0_i32_23
  let v46 : Index := Scalar.indexCast v44
  ![v45.toNat, 1, v46.toNat]
def k0_off4 (i : grid0.Coords) (c0_i32_25 : BitVec 32) : Fin 3 → Nat :=
  let arg0 : BitVec 32 := BitVec.ofNat 32 (i 0).val
  let v55 : Index := Scalar.indexCast arg0
  let c2 : Index := 2#32
  let arg1 : BitVec 32 := BitVec.ofNat 32 (i 1).val
  let c7_i32_24 : BitVec 32 := 7#32
  let v53 : BitVec 32 := Scalar.muli arg1 c7_i32_24
  let v54 : BitVec 32 := Scalar.addi v53 c0_i32_25
  let v56 : Index := Scalar.indexCast v54
  ![v55.toNat, 2, v56.toNat]
def k0_off5 (i : grid0.Coords) (c0_i32_27 : BitVec 32) : Fin 3 → Nat :=
  let arg0 : BitVec 32 := BitVec.ofNat 32 (i 0).val
  let v60 : Index := Scalar.indexCast arg0
  let c3 : Index := 3#32
  let arg1 : BitVec 32 := BitVec.ofNat 32 (i 1).val
  let c7_i32_26 : BitVec 32 := 7#32
  let v58 : BitVec 32 := Scalar.muli arg1 c7_i32_26
  let v59 : BitVec 32 := Scalar.addi v58 c0_i32_27
  let v61 : Index := Scalar.indexCast v59
  ![v60.toNat, 3, v61.toNat]
def k0_off6 (i : grid0.Coords) : Fin 3 → Nat :=
  let c0_100 : Index := 0#32
  let arg1 : BitVec 32 := BitVec.ofNat 32 (i 1).val
  let v248 : Index := Scalar.indexCast arg1
  let arg0 : BitVec 32 := BitVec.ofNat 32 (i 0).val
  let v249 : Index := Scalar.indexCast arg0
  ![0, v248.toNat, v249.toNat]
def k0_off7 (i : grid0.Coords) : Fin 3 → Nat :=
  let c1_101 : Index := 1#32
  let arg1 : BitVec 32 := BitVec.ofNat 32 (i 1).val
  let v251 : Index := Scalar.indexCast arg1
  let arg0 : BitVec 32 := BitVec.ofNat 32 (i 0).val
  let v252 : Index := Scalar.indexCast arg0
  ![1, v251.toNat, v252.toNat]
def k0_off8 (i : grid0.Coords) : Fin 3 → Nat :=
  let c2_102 : Index := 2#32
  let arg1 : BitVec 32 := BitVec.ofNat 32 (i 1).val
  let v254 : Index := Scalar.indexCast arg1
  let arg0 : BitVec 32 := BitVec.ofNat 32 (i 0).val
  let v255 : Index := Scalar.indexCast arg0
  ![2, v254.toNat, v255.toNat]
def k0_off9 (i : grid0.Coords) : Fin 3 → Nat :=
  let c3_103 : Index := 3#32
  let arg1 : BitVec 32 := BitVec.ofNat 32 (i 1).val
  let v257 : Index := Scalar.indexCast arg1
  let arg0 : BitVec 32 := BitVec.ofNat 32 (i 0).val
  let v258 : Index := Scalar.indexCast arg0
  ![3, v257.toNat, v258.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S6x4x14 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S4x2x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S4x2x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x7x192x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x192x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256x384 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x7x256x384 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x14x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x7x192x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x192x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x256x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S6x256x14x192 : Shape := ⟨4, ![6, 256, 14, 192]⟩
abbrev S6x4x14 : Shape := ⟨3, ![6, 4, 14]⟩
abbrev S6x256x2x192 : Shape := ⟨4, ![6, 256, 2, 192]⟩
abbrev S6x4x2 : Shape := ⟨3, ![6, 4, 2]⟩
abbrev S6x256x2x384 : Shape := ⟨4, ![6, 256, 2, 384]⟩
abbrev S6x256x14x384 : Shape := ⟨4, ![6, 256, 14, 384]⟩
abbrev S6x256x14 : Shape := ⟨3, ![6, 256, 14]⟩
abbrev S6x4x64x2x7x192 : Shape := ⟨6, ![6, 4, 64, 2, 7, 192]⟩
abbrev S6x4x64x2x192 : Shape := ⟨5, ![6, 4, 64, 2, 192]⟩
abbrev S6x4x64x2x384 : Shape := ⟨5, ![6, 4, 64, 2, 384]⟩
abbrev S6x4x64x2x7x384 : Shape := ⟨6, ![6, 4, 64, 2, 7, 384]⟩
abbrev S6x4x2x7 : Shape := ⟨4, ![6, 4, 2, 7]⟩
abbrev S6x4x64x2x7 : Shape := ⟨5, ![6, 4, 64, 2, 7]⟩
abbrev S6x4x1x2x7x1 : Shape := ⟨6, ![6, 4, 1, 2, 7, 1]⟩
abbrev S6x4x1x2x1 : Shape := ⟨5, ![6, 4, 1, 2, 1]⟩
abbrev S6x4x64x2x7x1 : Shape := ⟨6, ![6, 4, 64, 2, 7, 1]⟩
abbrev S6x4x2x192x384 : Shape := ⟨5, ![6, 4, 2, 192, 384]⟩
abbrev S6x4x2x1x1 : Shape := ⟨5, ![6, 4, 2, 1, 1]⟩
abbrev S6x3x2x192x384 : Shape := ⟨5, ![6, 3, 2, 192, 384]⟩
abbrev S_ : Shape := ⟨0, ![]⟩
abbrev S64x64 : Shape := ⟨2, ![64, 64]⟩
abbrev S6x4x2x64x64x7 : Shape := ⟨6, ![6, 4, 2, 64, 64, 7]⟩
abbrev S6x4x2x7x64x64 : Shape := ⟨6, ![6, 4, 2, 7, 64, 64]⟩
abbrev S6x4x2x7x64 : Shape := ⟨5, ![6, 4, 2, 7, 64]⟩
abbrev S6x4x2x7x64x1 : Shape := ⟨6, ![6, 4, 2, 7, 64, 1]⟩
abbrev S6x4x2x1x1x1 : Shape := ⟨6, ![6, 4, 2, 1, 1, 1]⟩
abbrev S6x4x2x1 : Shape := ⟨4, ![6, 4, 2, 1]⟩
abbrev S6x4x2x7x1x1 : Shape := ⟨6, ![6, 4, 2, 7, 1, 1]⟩
abbrev S6x4x2x192x64x7 : Shape := ⟨6, ![6, 4, 2, 192, 64, 7]⟩
abbrev S6x4x2x192x7x64 : Shape := ⟨6, ![6, 4, 2, 192, 7, 64]⟩
abbrev S6x4x2x192x64 : Shape := ⟨5, ![6, 4, 2, 192, 64]⟩
abbrev S6x4x2x384x64 : Shape := ⟨5, ![6, 4, 2, 384, 64]⟩

abbrev nBuf : Space → Nat
  | .hbm => 126
  | .vmem => 8
  | .smem => 0
  | _ => 0

abbrev bufTy : (tb : Table) → Fin (tcTables nBuf tb) → BufTy
  | .hbm, ⟨0, _⟩ => ⟨S6x256x14x192, .fp8e4m3⟩
  | .hbm, ⟨1, _⟩ => ⟨S6x4x14, .f32⟩
  | .hbm, ⟨2, _⟩ => ⟨S6x256x2x192, .fp8e4m3⟩
  | .hbm, ⟨3, _⟩ => ⟨S6x4x2, .f32⟩
  | .hbm, ⟨4, _⟩ => ⟨S6x256x2x384, .fp8e4m3⟩
  | .hbm, ⟨5, _⟩ => ⟨S6x4x2, .f32⟩
  | .hbm, ⟨6, _⟩ => ⟨S6x256x14x384, .fp8e5m2⟩
  | .hbm, ⟨7, _⟩ => ⟨S6x256x14, .f32⟩
  | .hbm, ⟨8, _⟩ => ⟨S6x256x14x192, .bf16⟩
  | .hbm, ⟨9, _⟩ => ⟨S6x256x2x192, .bf16⟩
  | .hbm, ⟨10, _⟩ => ⟨S6x256x2x384, .bf16⟩
  | .hbm, ⟨11, _⟩ => ⟨S6x256x14x384, .bf16⟩
  | .hbm, ⟨12, _⟩ => ⟨S6x4x64x2x7x192, .bf16⟩
  | .hbm, ⟨13, _⟩ => ⟨S6x4x64x2x192, .bf16⟩
  | .hbm, ⟨14, _⟩ => ⟨S6x4x64x2x384, .bf16⟩
  | .hbm, ⟨15, _⟩ => ⟨S6x4x64x2x7x384, .bf16⟩
  | .hbm, ⟨16, _⟩ => ⟨S6x4x2x7, .f32⟩
  | .hbm, ⟨17, _⟩ => ⟨S6x4x64x2x7, .f32⟩
  | .hbm, ⟨18, _⟩ => ⟨S6x4x1x2x7x1, .f32⟩
  | .hbm, ⟨19, _⟩ => ⟨S6x4x1x2x7x1, .bf16⟩
  | .hbm, ⟨20, _⟩ => ⟨S6x4x64x2x7x192, .bf16⟩
  | .hbm, ⟨21, _⟩ => ⟨S6x4x64x2x7x192, .bf16⟩
  | .hbm, ⟨22, _⟩ => ⟨S6x4x1x2x1, .f32⟩
  | .hbm, ⟨23, _⟩ => ⟨S6x4x1x2x1, .bf16⟩
  | .hbm, ⟨24, _⟩ => ⟨S6x4x64x2x192, .bf16⟩
  | .hbm, ⟨25, _⟩ => ⟨S6x4x64x2x192, .bf16⟩
  | .hbm, ⟨26, _⟩ => ⟨S6x4x1x2x1, .f32⟩
  | .hbm, ⟨27, _⟩ => ⟨S6x4x1x2x1, .bf16⟩
  | .hbm, ⟨28, _⟩ => ⟨S6x4x64x2x384, .bf16⟩
  | .hbm, ⟨29, _⟩ => ⟨S6x4x64x2x384, .bf16⟩
  | .hbm, ⟨30, _⟩ => ⟨S6x4x64x2x7x1, .f32⟩
  | .hbm, ⟨31, _⟩ => ⟨S6x4x64x2x7x1, .bf16⟩
  | .hbm, ⟨32, _⟩ => ⟨S6x4x64x2x7x384, .bf16⟩
  | .hbm, ⟨33, _⟩ => ⟨S6x4x64x2x7x384, .bf16⟩
  | .hbm, ⟨34, _⟩ => ⟨S6x4x2x192x384, .f32⟩
  | .hbm, ⟨35, _⟩ => ⟨S6x4x2, .f32⟩
  | .hbm, ⟨36, _⟩ => ⟨S6x4x2x1x1, .f32⟩
  | .hbm, ⟨37, _⟩ => ⟨S6x4x2x192x384, .f32⟩
  | .hbm, ⟨38, _⟩ => ⟨S6x4x2x192x384, .f32⟩
  | .hbm, ⟨39, _⟩ => ⟨S6x4x2x192x384, .f32⟩
  | .hbm, ⟨40, _⟩ => ⟨S6x3x2x192x384, .f32⟩
  | .hbm, ⟨41, _⟩ => ⟨S_, .f32⟩
  | .hbm, ⟨42, _⟩ => ⟨S_, .f32⟩
  | .hbm, ⟨43, _⟩ => ⟨S6x3x2x192x384, .f32⟩
  | .hbm, ⟨44, _⟩ => ⟨S_, .i32⟩
  | .hbm, ⟨45, _⟩ => ⟨S_, .f32⟩
  | .hbm, ⟨46, _⟩ => ⟨S6x4x2x192x384, .f32⟩
  | .hbm, ⟨47, _⟩ => ⟨S6x3x2x192x384, .f32⟩
  | .hbm, ⟨48, _⟩ => ⟨S_, .f32⟩
  | .hbm, ⟨49, _⟩ => ⟨S_, .f32⟩
  | .hbm, ⟨50, _⟩ => ⟨S6x3x2x192x384, .f32⟩
  | .hbm, ⟨51, _⟩ => ⟨S_, .i32⟩
  | .hbm, ⟨52, _⟩ => ⟨S_, .f32⟩
  | .hbm, ⟨53, _⟩ => ⟨S6x4x2x192x384, .f32⟩
  | .hbm, ⟨54, _⟩ => ⟨S6x4x2x192x384, .bf16⟩
  | .hbm, ⟨55, _⟩ => ⟨S6x4x2x192x384, .bf16⟩
  | .hbm, ⟨56, _⟩ => ⟨S_, .i1⟩
  | .hbm, ⟨57, _⟩ => ⟨S64x64, .i1⟩
  | .hbm, ⟨58, _⟩ => ⟨S64x64, .i32⟩
  | .hbm, ⟨59, _⟩ => ⟨S_, .i32⟩
  | .hbm, ⟨60, _⟩ => ⟨S64x64, .i32⟩
  | .hbm, ⟨61, _⟩ => ⟨S64x64, .i32⟩
  | .hbm, ⟨62, _⟩ => ⟨S64x64, .i32⟩
  | .hbm, ⟨63, _⟩ => ⟨S64x64, .i1⟩
  | .hbm, ⟨64, _⟩ => ⟨S_, .i1⟩
  | .hbm, ⟨65, _⟩ => ⟨S64x64, .i1⟩
  | .hbm, ⟨66, _⟩ => ⟨S64x64, .i1⟩
  | .hbm, ⟨67, _⟩ => ⟨S6x4x2x64x64x7, .f32⟩
  | .hbm, ⟨68, _⟩ => ⟨S6x4x2x7x64x64, .f32⟩
  | .hbm, ⟨69, _⟩ => ⟨S6x4x2x7x64, .f32⟩
  | .hbm, ⟨70, _⟩ => ⟨S6x4x2x7x64x1, .f32⟩
  | .hbm, ⟨71, _⟩ => ⟨S6x4x2x1x1x1, .f32⟩
  | .hbm, ⟨72, _⟩ => ⟨S6x4x2x7x64x1, .f32⟩
  | .hbm, ⟨73, _⟩ => ⟨S6x4x2x7x64x1, .f32⟩
  | .hbm, ⟨74, _⟩ => ⟨S6x4x2x7x64x64, .f32⟩
  | .hbm, ⟨75, _⟩ => ⟨S6x4x2x7x64x64, .f32⟩
  | .hbm, ⟨76, _⟩ => ⟨S_, .f32⟩
  | .hbm, ⟨77, _⟩ => ⟨S_, .f32⟩
  | .hbm, ⟨78, _⟩ => ⟨S6x4x2x7x64x64, .i1⟩
  | .hbm, ⟨79, _⟩ => ⟨S6x4x2x7x64x64, .f32⟩
  | .hbm, ⟨80, _⟩ => ⟨S6x4x2x7x64x64, .f32⟩
  | .hbm, ⟨81, _⟩ => ⟨S6x4x2x7x64x64, .bf16⟩
  | .hbm, ⟨82, _⟩ => ⟨S6x4x2x64x64x7, .f32⟩
  | .hbm, ⟨83, _⟩ => ⟨S6x4x2x7x64x64, .f32⟩
  | .hbm, ⟨84, _⟩ => ⟨S6x4x2x1, .f32⟩
  | .hbm, ⟨85, _⟩ => ⟨S6x4x2x7, .f32⟩
  | .hbm, ⟨86, _⟩ => ⟨S6x4x2x7, .f32⟩
  | .hbm, ⟨87, _⟩ => ⟨S6x4x2x7x1x1, .f32⟩
  | .hbm, ⟨88, _⟩ => ⟨S6x4x2x7x64x64, .f32⟩
  | .hbm, ⟨89, _⟩ => ⟨S6x4x2x7x64x64, .f32⟩
  | .hbm, ⟨90, _⟩ => ⟨S_, .f32⟩
  | .hbm, ⟨91, _⟩ => ⟨S_, .f32⟩
  | .hbm, ⟨92, _⟩ => ⟨S6x4x2x7x64x64, .i1⟩
  | .hbm, ⟨93, _⟩ => ⟨S6x4x2x7x64x64, .f32⟩
  | .hbm, ⟨94, _⟩ => ⟨S6x4x2x7x64x64, .f32⟩
  | .hbm, ⟨95, _⟩ => ⟨S6x4x2x7x64x64, .bf16⟩
  | .hbm, ⟨96, _⟩ => ⟨S6x4x2x192x64x7, .f32⟩
  | .hbm, ⟨97, _⟩ => ⟨S6x4x64x2x7x192, .f32⟩
  | .hbm, ⟨98, _⟩ => ⟨S6x4x2x192x7x64, .f32⟩
  | .hbm, ⟨99, _⟩ => ⟨S6x4x64x2x7x192, .f32⟩
  | .hbm, ⟨100, _⟩ => ⟨S6x4x64x2x7x192, .f32⟩
  | .hbm, ⟨101, _⟩ => ⟨S6x4x2x192x64, .f32⟩
  | .hbm, ⟨102, _⟩ => ⟨S6x4x64x2x192, .f32⟩
  | .hbm, ⟨103, _⟩ => ⟨S6x4x2x192x64, .f32⟩
  | .hbm, ⟨104, _⟩ => ⟨S6x4x64x2x192, .f32⟩
  | .hbm, ⟨105, _⟩ => ⟨S6x4x64x2x192, .f32⟩
  | .hbm, ⟨106, _⟩ => ⟨S6x4x2x384x64, .f32⟩
  | .hbm, ⟨107, _⟩ => ⟨S6x4x64x2x384, .f32⟩
  | .hbm, ⟨108, _⟩ => ⟨S6x4x2x384x64, .f32⟩
  | .hbm, ⟨109, _⟩ => ⟨S6x4x64x2x384, .f32⟩
  | .hbm, ⟨110, _⟩ => ⟨S6x4x64x2x384, .f32⟩
  | .hbm, ⟨111, _⟩ => ⟨S_, .f32⟩
  | .hbm, ⟨112, _⟩ => ⟨S6x4x64x2x7x192, .f32⟩
  | .hbm, ⟨113, _⟩ => ⟨S6x4x64x2x7x192, .f32⟩
  | .hbm, ⟨114, _⟩ => ⟨S6x4x64x2x7x192, .bf16⟩
  | .hbm, ⟨115, _⟩ => ⟨S6x256x14x192, .bf16⟩
  | .hbm, ⟨116, _⟩ => ⟨S_, .f32⟩
  | .hbm, ⟨117, _⟩ => ⟨S6x4x64x2x192, .f32⟩
  | .hbm, ⟨118, _⟩ => ⟨S6x4x64x2x192, .f32⟩
  | .hbm, ⟨119, _⟩ => ⟨S6x4x64x2x192, .bf16⟩
  | .hbm, ⟨120, _⟩ => ⟨S6x256x2x192, .bf16⟩
  | .hbm, ⟨121, _⟩ => ⟨S_, .f32⟩
  | .hbm, ⟨122, _⟩ => ⟨S6x4x64x2x384, .f32⟩
  | .hbm, ⟨123, _⟩ => ⟨S6x4x64x2x384, .f32⟩
  | .hbm, ⟨124, _⟩ => ⟨S6x4x64x2x384, .bf16⟩
  | .hbm, ⟨125, _⟩ => ⟨S6x256x2x384, .bf16⟩
  | .local _ .vmem, ⟨0, _⟩ => ⟨S6x256x14x192, .fp8e4m3⟩
  | .local _ .vmem, ⟨1, _⟩ => ⟨S6x256x2x192, .fp8e4m3⟩
  | .local _ .vmem, ⟨2, _⟩ => ⟨S6x256x2x384, .fp8e4m3⟩
  | .local _ .vmem, ⟨3, _⟩ => ⟨S6x256x14x384, .fp8e5m2⟩
  | .local _ .vmem, ⟨4, _⟩ => ⟨S6x256x14x192, .bf16⟩
  | .local _ .vmem, ⟨5, _⟩ => ⟨S6x256x2x192, .bf16⟩
  | .local _ .vmem, ⟨6, _⟩ => ⟨S6x256x2x384, .bf16⟩
  | .local _ .vmem, ⟨7, _⟩ => ⟨S6x256x14x384, .bf16⟩
  | _, _ => ⟨S6x256x14x192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call0_cst : Ref sig .tc := ⟨.hbm, 41, rfl⟩
abbrev main_call0_v0 : Ref sig .tc := ⟨.hbm, 42, rfl⟩
abbrev main_v30 : Ref sig .tc := ⟨.hbm, 43, rfl⟩
abbrev main_c : Ref sig .tc := ⟨.hbm, 44, rfl⟩
abbrev main_call1_v0 : Ref sig .tc := ⟨.hbm, 45, rfl⟩
abbrev main_v31 : Ref sig .tc := ⟨.hbm, 46, rfl⟩
abbrev main_v32 : Ref sig .tc := ⟨.hbm, 47, rfl⟩
abbrev main_call2_cst : Ref sig .tc := ⟨.hbm, 48, rfl⟩
abbrev main_call2_v0 : Ref sig .tc := ⟨.hbm, 49, rfl⟩
abbrev main_v33 : Ref sig .tc := ⟨.hbm, 50, rfl⟩
abbrev main_c_0 : Ref sig .tc := ⟨.hbm, 51, rfl⟩
abbrev main_call3_v0 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_1 : Ref sig .tc := ⟨.hbm, 56, rfl⟩
abbrev main_v37 : Ref sig .tc := ⟨.hbm, 57, rfl⟩
abbrev main_call4_v0 : Ref sig .tc := ⟨.hbm, 58, rfl⟩
abbrev main_call4_c : Ref sig .tc := ⟨.hbm, 59, rfl⟩
abbrev main_call4_v1 : Ref sig .tc := ⟨.hbm, 60, rfl⟩
abbrev main_call4_v2 : Ref sig .tc := ⟨.hbm, 61, rfl⟩
abbrev main_call4_v3 : Ref sig .tc := ⟨.hbm, 62, rfl⟩
abbrev main_call4_v4 : Ref sig .tc := ⟨.hbm, 63, rfl⟩
abbrev main_call4_c_0 : Ref sig .tc := ⟨.hbm, 64, rfl⟩
abbrev main_call4_v5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst : Ref sig .tc := ⟨.hbm, 76, rfl⟩
abbrev main_call5_v0 : Ref sig .tc := ⟨.hbm, 77, rfl⟩
abbrev main_call5_v1 : Ref sig .tc := ⟨.hbm, 78, rfl⟩
abbrev main_call5_v2 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_2 : Ref sig .tc := ⟨.hbm, 90, rfl⟩
abbrev main_call6_v0 : Ref sig .tc := ⟨.hbm, 91, rfl⟩
abbrev main_call6_v1 : Ref sig .tc := ⟨.hbm, 92, rfl⟩
abbrev main_call6_v2 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_3 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_4 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_5 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S6x256x14x192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256x2x192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256x2x384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256x14x384 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x256x14x192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x256x2x192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x256x2x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x256x14x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Spec.lean ====
module

public import Idealize.ShloMosaic.Lib.Pipeline.ValueKit
public import Idealize.ShloMosaic.Lib.Pointwise

/-! The mathematics of one block: one batch row `b` and one pair of key/value head `g`, with the seven
query heads that share it. The 256 tokens of a block are four chunks of 64. Everything is over the
extended reals; the two sequential states of the chunked recurrence are written as sums over chunks.

The functions below state, index by index, what the kernel computes for a block, in the kernel's own
grouping of the factors. -/

@[expose] public section

noncomputable section

open Idealize.ShloMosaic

/-- The data of one block: codes of `q`, `k` (feature first), `v`, `do`, and their scales: one per
chunk (and head) for `q`, `k`, `v`, one per token and head for `do`. -/
structure Blk where
  q : Fin 7 → Fin 192 → Fin 256 → EReal
  k : Fin 192 → Fin 256 → EReal
  v : Fin 256 → Fin 384 → EReal
  g : Fin 7 → Fin 256 → Fin 384 → EReal
  qs : Fin 4 → Fin 7 → EReal
  ks : Fin 4 → EReal
  vs : Fin 4 → EReal
  ds : Fin 7 → Fin 256 → EReal

/-- Head of a column of the seven heads laid side by side, 64 tokens each. -/
def hd (c : Fin 448) : Fin 7 := ⟨c / 64, by omega⟩
/-- Token within the chunk of such a column. -/
def tk (c : Fin 448) : Fin 64 := ⟨c % 64, by omega⟩
/-- The column of head `r` and token `t`. -/
def col (r : Fin 7) (t : Fin 64) : Fin 448 := ⟨64 * r + t, by omega⟩
/-- Token `t` of chunk `n` within the 256 tokens. -/
def pos (n : Fin 4) (t : Fin 64) : Fin 256 := ⟨64 * n + t, by omega⟩
/-- Token `l` of the half `m` of the 256 tokens. -/
def lane (m : Fin 2) (l : Fin 128) : Fin 256 := ⟨128 * m + l, by omega⟩
/-- The half that holds chunk `n`. -/
def half (n : Fin 4) : Fin 2 := ⟨n / 2, by omega⟩
/-- Chunk of a token. -/
def chk (s : Fin 256) : Fin 4 := ⟨s / 64, by omega⟩
/-- Token within its chunk. -/
def tok (s : Fin 256) : Fin 64 := ⟨s % 64, by omega⟩

/-- The softmax scale, as the constant of the program. -/
def sm : EReal := Ideal.ofBits FTy.f32 1033096506#32

/-- Lane `l` of a half holds a token of chunk `n` that is no later than token `t` of that chunk. -/
def Own (n : Fin 4) (t : Fin 64) (l : Fin 128) : Prop :=
  64 * (n.val % 2) ≤ l.val ∧ l.val ≤ 64 * (n.val % 2) + t.val

instance (n : Fin 4) (t : Fin 64) (l : Fin 128) : Decidable (Own n t l) := by
  unfold Own; infer_instance

namespace Blk
variable (B : Blk)

/-- The query scale and the row's `do` scale together. -/
def qsc (n : Fin 4) (r : Fin 7) (t : Fin 64) : EReal := B.ds r (pos n t) * B.qs n r
/-- Scaled queries of chunk `n`, feature by column. -/
def qb (n : Fin 4) (d : Fin 192) (c : Fin 448) : EReal :=
  B.q (hd c) d (pos n (tk c)) * B.qsc n (hd c) (tk c)
/-- Rows of `do` of chunk `n`. -/
def gb (n : Fin 4) (c : Fin 448) (e : Fin 384) : EReal := B.g (hd c) (pos n (tk c)) e
/-- Causal scores inside chunk `n`, key token by column. -/
def pb (n : Fin 4) (j : Fin 64) (c : Fin 448) : EReal :=
  if j.val ≤ (tk c).val then
    (∑ d, B.k d (pos n j) * B.q (hd c) d (pos n (tk c))) * B.qsc n (hd c) (tk c) else 0
/-- Causal products `do · v` inside chunk `n`, column by lane of its half. -/
def ab (n : Fin 4) (c : Fin 448) (l : Fin 128) : EReal :=
  if Own n (tk c) l then ∑ e, B.gb n c e * B.v (lane (half n) l) e else 0
/-- The outer product `k vᵀ` of chunk `n`, scaled. -/
def U (n : Fin 4) (d : Fin 192) (e : Fin 384) : EReal :=
  (∑ t, B.k d (pos n t) * B.v (pos n t) e) * (B.ks n * B.vs n)
/-- The state before chunk `n`: the outer products of the earlier chunks. -/
def S (n : Fin 4) (d : Fin 192) (e : Fin 384) : EReal := ∑ n' : Fin 4, if n' < n then B.U n' d e else 0
/-- Keys with both scales of their chunk. -/
def kts (d : Fin 192) (s : Fin 256) : EReal := B.k d s * (B.ks (chk s) * B.vs (chk s))
/-- The gradient of the queries before the row's `do` scale. -/
def dqk (n : Fin 4) (c : Fin 448) (d : Fin 192) : EReal :=
  ((∑ e, B.gb n c e * B.S n d e) + ∑ l, B.ab n c l * B.kts d (lane (half n) l)) * sm
/-- The outer product `q doᵀ` of chunk `n`. -/
def W (n : Fin 4) (d : Fin 192) (e : Fin 384) : EReal := ∑ c, B.qb n d c * B.gb n c e
/-- The state after chunk `n`: the outer products of the later chunks. -/
def D (n : Fin 4) (d : Fin 192) (e : Fin 384) : EReal := ∑ n' : Fin 4, if n < n' then B.W n' d e else 0
/-- The gradient of the values. -/
def dvk (n : Fin 4) (j : Fin 64) (e : Fin 384) : EReal :=
  ((∑ c, B.pb n j c * B.gb n c e) + ∑ d, B.k d (pos n j) * B.D n d e) * B.ks n * sm
/-- The contribution of chunk `n` itself to the gradient of the keys. -/
def G (n : Fin 4) (d : Fin 192) (l : Fin 128) : EReal := ∑ c, B.qb n d c * B.ab n c l
/-- The contribution of the later chunks to the gradient of the keys, on the lanes of half `m`. -/
def H (n : Fin 4) (d : Fin 192) (s : Fin 256) : EReal := ∑ e, B.D n d e * B.v s e
/-- The gradient of the keys on the lanes of half `m`, from its chunks `n₀` and `n₁`. -/
def dkk (m : Fin 2) (n₀ n₁ : Fin 4) (d : Fin 192) (l : Fin 128) : EReal :=
  ((B.G n₁ d l + if l.val < 64 then 0 else B.H n₁ d (lane m l)) +
    (B.G n₀ d l + if l.val < 64 then B.H n₀ d (lane m l) else 0)) *
    (if l.val < 64 then B.vs n₀ else B.vs n₁) * sm

theorem S_zero (d : Fin 192) (e : Fin 384) : B.S 0 d e = 0 := by simp [S]
theorem S_one (d : Fin 192) (e : Fin 384) : B.S 1 d e = B.U 0 d e := by
  rw [S, Fin.sum_univ_four]; simp
theorem S_two (d : Fin 192) (e : Fin 384) : B.S 2 d e = B.U 0 d e + B.U 1 d e := by
  rw [S, Fin.sum_univ_four]; simp
theorem S_three (d : Fin 192) (e : Fin 384) : B.S 3 d e = B.U 0 d e + B.U 1 d e + B.U 2 d e := by
  rw [S, Fin.sum_univ_four]; simp [show (2 : Fin 4) < 3 by decide]
theorem D_three (d : Fin 192) (e : Fin 384) : B.D 3 d e = 0 := by
  rw [D, Fin.sum_univ_four]; simp [show ¬ (3 : Fin 4) < 2 by decide, show ¬ (3 : Fin 4) < 1 by decide]
theorem D_two (d : Fin 192) (e : Fin 384) : B.D 2 d e = B.W 3 d e := by
  rw [D, Fin.sum_univ_four]; simp [show (2 : Fin 4) < 3 by decide]
theorem D_one (d : Fin 192) (e : Fin 384) : B.D 1 d e = B.W 3 d e + B.W 2 d e := by
  rw [D, Fin.sum_univ_four]
  simp [show (1 : Fin 4) < 3 by decide, show (1 : Fin 4) < 2 by decide, add_comm]
theorem D_zero (d : Fin 192) (e : Fin 384) : B.D 0 d e = B.W 3 d e + B.W 2 d e + B.W 1 d e := by
  rw [D, Fin.sum_univ_four]
  simp [show (0 : Fin 4) < 3 by decide]
  ac_rfl
theorem H_three (d : Fin 192) (s : Fin 256) : B.H 3 d s = 0 := by
  rw [H]; exact Finset.sum_eq_zero fun e _ => by rw [D_three, zero_mul]
end Blk

/-- Seven pieces of 64 laid side by side, read at a column. -/
theorem ladder {α : Type} (f : Fin 7 → Fin 64 → α) (c : Fin 448) :
    (if h : c.val < 64 then f 0 ⟨c.val, h⟩ else
      if h : c.val - 64 < 64 then f 1 ⟨c.val - 64, h⟩ else
      if h : c.val - 64 - 64 < 64 then f 2 ⟨c.val - 64 - 64, h⟩ else
      if h : c.val - 64 - 64 - 64 < 64 then f 3 ⟨c.val - 64 - 64 - 64, h⟩ else
      if h : c.val - 64 - 64 - 64 - 64 < 64 then f 4 ⟨c.val - 64 - 64 - 64 - 64, h⟩ else
      if h : c.val - 64 - 64 - 64 - 64 - 64 < 64 then f 5 ⟨c.val - 64 - 64 - 64 - 64 - 64, h⟩ else
      f 6 ⟨c.val - 64 - 64 - 64 - 64 - 64 - 64, by omega⟩) = f (hd c) (tk c) := by
  obtain ⟨c, hc⟩ := c
  have key : ∀ (r : Fin 7) (t : Fin 64), c = 64 * r.val + t.val →
      f r t = f (hd ⟨c, hc⟩) (tk ⟨c, hc⟩) := by
    intro r t h
    have h1 : hd ⟨c, hc⟩ = r := Fin.ext (by simp only [hd]; omega)
    have h2 : tk ⟨c, hc⟩ = t := Fin.ext (by simp only [tk]; omega)
    rw [h1, h2]
  dsimp only
  split
  · exact key _ _ (by simp)
  split
  · exact key _ _ (by simp; omega)
  split
  · exact key _ _ (by simp; omega)
  split
  · exact key _ _ (by simp; omega)
  split
  · exact key _ _ (by simp; omega)
  split
  · exact key _ _ (by simp; omega)
  · exact key _ _ (by simp; omega)

theorem sel_ite {α : Type} (p : Prop) [Decidable p] (a b : α) :
    Scalar.select (if p then 1#1 else 0#1) a b = if p then a else b := by
  split <;> rfl

theorem hd_col (r : Fin 7) (t : Fin 64) : hd (col r t) = r := Fin.ext (by simp only [hd, col]; omega)
theorem tk_col (r : Fin 7) (t : Fin 64) : tk (col r t) = t := Fin.ext (by simp only [tk, col]; omega)
theorem pos_chk (s : Fin 256) : pos (chk s) (tok s) = s := Fin.ext (by simp only [pos, chk, tok]; omega)
theorem chk_pos (n : Fin 4) (t : Fin 64) : chk (pos n t) = n := Fin.ext (by simp only [pos, chk]; omega)
theorem tok_pos (n : Fin 4) (t : Fin 64) : tok (pos n t) = t := Fin.ext (by simp only [pos, tok]; omega)
theorem mk_pos0 (t : Fin 64) (h) : (⟨t.val, h⟩ : Fin 256) = pos 0 t := Fin.ext (by simp [pos])
theorem mk_pos1 (t : Fin 64) (h) : (⟨64 + t.val, h⟩ : Fin 256) = pos 1 t := Fin.ext (by simp [pos])
theorem mk_pos2 (t : Fin 64) (h) : (⟨128 + t.val, h⟩ : Fin 256) = pos 2 t := Fin.ext (by simp [pos])
theorem mk_pos3 (t : Fin 64) (h) : (⟨192 + t.val, h⟩ : Fin 256) = pos 3 t := Fin.ext (by simp [pos])
theorem mk_lane0 (l : Fin 128) (h) : (⟨l.val, h⟩ : Fin 256) = lane 0 l := Fin.ext (by simp [lane])
theorem mk_lane1 (l : Fin 128) (h) : (⟨128 + l.val, h⟩ : Fin 256) = lane 1 l := Fin.ext (by simp [lane])
-- ==== Proof.Arr.lean ====
module
public import proofs.«01_k».proof.Proof.Spec

/-!
The arguments of the kernel as plain functions of their indices, the data of one batch row and one
key/value head taken out of them, and the three results in terms of that data.
-/
@[expose] public section
noncomputable section

/-- The eight arguments. -/
structure Arr where
  q : Fin 6 → Fin 256 → Fin 14 → Fin 192 → EReal
  qs : Fin 6 → Fin 4 → Fin 14 → EReal
  k : Fin 6 → Fin 256 → Fin 2 → Fin 192 → EReal
  ks : Fin 6 → Fin 4 → Fin 2 → EReal
  v : Fin 6 → Fin 256 → Fin 2 → Fin 384 → EReal
  vs : Fin 6 → Fin 4 → Fin 2 → EReal
  g : Fin 6 → Fin 256 → Fin 14 → Fin 384 → EReal
  ds : Fin 6 → Fin 256 → Fin 14 → EReal

/-- Query head `r` of the group of key/value head `g`. -/
def hq (g : Fin 2) (r : Fin 7) : Fin 14 := ⟨7 * g.val + r.val, by omega⟩
/-- The key/value head of a query head. -/
def hg (h : Fin 14) : Fin 2 := ⟨h.val / 7, by omega⟩
/-- The place of a query head in its group. -/
def hr (h : Fin 14) : Fin 7 := ⟨h.val % 7, by omega⟩

theorem hq_hg_hr (h : Fin 14) : hq (hg h) (hr h) = h := Fin.ext (by simp only [hq, hg, hr]; omega)
theorem hg_hq (g : Fin 2) (r : Fin 7) : hg (hq g r) = g := Fin.ext (by simp only [hq, hg]; omega)
theorem hr_hq (g : Fin 2) (r : Fin 7) : hr (hq g r) = r := Fin.ext (by simp only [hq, hr]; omega)

/-- The data of batch row `b` and key/value head `g`. -/
def Arr.blk (A : Arr) (b : Fin 6) (g : Fin 2) : Blk where
  q r d s := A.q b s (hq g r) d
  k d s := A.k b s g d
  v s e := A.v b s g e
  g r s e := A.g b s (hq g r) e
  qs n r := A.qs b n (hq g r)
  ks n := A.ks b n g
  vs n := A.vs b n g
  ds r s := A.ds b s (hq g r)

/-- The gradient of the values of a block, at a token. -/
def DV (B : Blk) (s : Fin 256) (e : Fin 384) : EReal := B.dvk (chk s) (tok s) e
/-- The gradient of the keys of a block, at a token. -/
def DK (B : Blk) (d : Fin 192) (s : Fin 256) : EReal :=
  if h : s.val < 128 then B.dkk 0 0 1 d ⟨s.val, h⟩ else B.dkk 1 2 3 d ⟨s.val - 128, by omega⟩
/-- The gradient of the queries of a block, at a head and a token. -/
def DQ (B : Blk) (r : Fin 7) (d : Fin 192) (s : Fin 256) : EReal := B.dqk (chk s) (col r (tok s)) d * B.ds r s
-- ==== Proof.Stages.lean ====
module

public import proofs.«01_k».proof.Proof.Gen.KernelIdeal.Frame
public import proofs.«01_k».proof.Proof.Spec

/-! Each stage of the kernel at one index: if its operands hold what the mathematics says, so does its
result. The stages are those of one block; the operands are arbitrary tensors. -/

@[expose] public section

set_option maxRecDepth 16384

noncomputable section

namespace Cert.KernelIdeal.Val

open Idealize.ShloMosaic Idealize.ShloMosaic.TcCoe Idealize.SL.Sem
open Cert.KernelIdeal Cert.KernelIdeal.Gen

/-- The lower half of the lanes. -/
theorem pay1_at (l : Fin 128) : k0_pay1 (ix2 0 l) = if l.val < 64 then 1#1 else 0#1 := by
  pointwise [k0_pay1]
  revert l; decide +kernel
/-- The upper half of the lanes. -/
theorem npay1_at (l : Fin 128) :
    IntOp.xori (k0_pay1 (ix2 0 l)) 1#1 = if l.val < 64 then 0#1 else 1#1 := by
  rw [pay1_at]; split <;> rfl

theorem pay38_at (t : Fin 64) (l : Fin 128) (n : Fin 4) (hn : n.val % 2 = 0) :
    k0_pay38 (ix2 t l) = if Own n t l then 1#1 else 0#1 := by
  have h : k0_pay38 (ix2 t l) = if l.val ≤ t.val then 1#1 else 0#1 := by
    pointwise [k0_pay38]
    revert t l; decide +kernel
  rw [h]; refine if_congr ?_ rfl rfl; unfold Own; omega
theorem pay39_at (t : Fin 64) (l : Fin 128) (n : Fin 4) (hn : n.val % 2 = 1) :
    k0_pay39 (ix2 t l) = if Own n t l then 1#1 else 0#1 := by
  have h : k0_pay39 (ix2 t l) = if 64 ≤ l.val ∧ l.val ≤ 64 + t.val then 1#1 else 0#1 := by
    pointwise [k0_pay39]
    revert t l; decide +kernel
  rw [h]; refine if_congr ?_ rfl rfl; unfold Own; omega

/-- The causal mask of the scores, over two chunks' lanes. -/
abbrev pmask : IVec S64x128 1 :=
  k0_pay43 (iota Kind.tc S64x128 32 [0] iota_S64x128_d0_w32) 64#32 k0_pay40 k0_pay41 k0_pay42
theorem pmask_at (j : Fin 64) (l : Fin 128) :
    pmask (ix2 j l) = if j.val ≤ l.val % 64 then 1#1 else 0#1 := by
  pointwise [pmask, k0_pay43, k0_pay40, k0_pay41, k0_pay42]
  revert j l; decide +kernel

/-- Seven `q` tiles side by side. -/
theorem qcat_at (l : Fin 7 → Vec Ideal S1x1x192x64 .fp8e4m3) (d : Fin 192) (c : Fin 448) :
    k0_pay44 (l 0) (l 1) (l 2) (l 3) (l 4) (l 5) (l 6) (ix2 d c) = l (hd c) (ix4 0 0 d (tk c)) := by
  pointwise [k0_pay44]
  exact ladder (fun r t => l r (ix4 0 0 d t)) c
theorem gcat_at (l : Fin 7 → Vec Ideal S1x1x64x384 .fp8e5m2) (c : Fin 448) (e : Fin 384) :
    k0_pay48 (l 0) (l 1) (l 2) (l 3) (l 4) (l 5) (l 6) (ix2 c e) = l (hd c) (ix4 0 0 (tk c) e) := by
  pointwise [k0_pay48]
  exact ladder (fun r t => l r (ix4 0 0 t e)) c
theorem mcat_at (m : IVec S64x128 1) (c : Fin 448) (l : Fin 128) :
    k0_pay51 m (ix2 c l) = m (ix2 (tk c) l) := by
  pointwise [k0_pay51]
  exact ladder (fun _ t => m (ix2 t l)) c
/-- Seven rows of scales, their upper 64 lanes side by side. -/
theorem scat_hi (l : Fin 7 → FVec Ideal S1x128 .f32) (c : Fin 448) :
    k0_pay45 (l 0) (l 1) (l 2) (l 3) (l 4) (l 5) (l 6) (ix2 0 c) =
      l (hd c) (ix2 0 ⟨64 + (tk c).val, by omega⟩) := by
  pointwise [k0_pay45]
  exact ladder (fun r t => l r (ix2 0 ⟨64 + t.val, by omega⟩)) c
theorem scat_lo (l : Fin 7 → FVec Ideal S1x128 .f32) (c : Fin 448) :
    k0_pay63 (l 0) (l 1) (l 2) (l 3) (l 4) (l 5) (l 6) (ix2 0 c) =
      l (hd c) (ix2 0 ⟨(tk c).val, by omega⟩) := by
  pointwise [k0_pay63]
  exact ladder (fun r t => l r (ix2 0 ⟨t.val, by omega⟩)) c

variable (B : Blk)

/-- The row of scales of head `r` on the lower half of the tokens. -/
theorem wt0_at (w : Vec Ideal S1x1x256 .f32) (a b : Elt Ideal .f32) (r : Fin 7)
    (hw : ∀ s, w (ix3 0 0 s) = B.ds r s) (ha : a = B.qs 0 r) (hb : b = B.qs 1 r) (l : Fin 128) :
    k0_pay9 k0_pay1 (k0_pay2 w) a b (ix2 0 l) =
      B.ds r (lane 0 l) * if l.val < 64 then B.qs 0 r else B.qs 1 r := by
  pointwise [k0_pay9, k0_pay2]
  rw [pay1_at, sel_ite, ha, hb, mk_lane0, hw]
theorem wt1_at (w : Vec Ideal S1x1x256 .f32) (a b : Elt Ideal .f32) (r : Fin 7)
    (hw : ∀ s, w (ix3 0 0 s) = B.ds r s) (ha : a = B.qs 2 r) (hb : b = B.qs 3 r) (l : Fin 128) :
    k0_pay10 k0_pay1 (k0_pay2 w) a b (ix2 0 l) =
      B.ds r (lane 1 l) * if l.val < 64 then B.qs 2 r else B.qs 3 r := by
  pointwise [k0_pay10, k0_pay2]
  rw [pay1_at, sel_ite, ha, hb, mk_lane1, hw]

/-- The queries times their scales. -/
theorem qb_at (n : Fin 4) (q : FVec Ideal S192x448 .fp8e4m3) (w : FVec Ideal S1x448 .f32)
    (hq : ∀ d c, q (ix2 d c) = B.q (hd c) d (pos n (tk c)))
    (hw : ∀ c, w (ix2 0 c) = B.qsc n (hd c) (tk c)) (d : Fin 192) (c : Fin 448) :
    q (ix2 d c) * w (ix2 0 c) = B.qb n d c := by
  rw [hq, hw]; rfl

/-- The masked scores, the mask given for 128 lanes and repeated. -/
theorem mask448 (j : Fin 64) (c : Fin 448) :
    (if h : c.val < 128 then pmask (ix2 j ⟨c.val, h⟩) else
      if h : c.val - 128 < 128 then pmask (ix2 j ⟨c.val - 128, h⟩) else
      if h : c.val - 128 - 128 < 128 then pmask (ix2 j ⟨c.val - 128 - 128, h⟩) else
      pmask (ix2 j ⟨c.val - 128 - 128 - 128, by omega⟩)) =
    if j.val ≤ (tk c).val then 1#1 else 0#1 := by
  simp only [pmask_at, tk]
  split
  · rfl
  split
  · exact if_congr (by omega) rfl rfl
  split
  · exact if_congr (by omega) rfl rfl
  · exact if_congr (by omega) rfl rfl

theorem pb3_at (k : FVec Ideal S256x192 .fp8e4m3) (q : FVec Ideal S192x448 .fp8e4m3) (w : FVec Ideal S1x448 .f32)
    (hk : ∀ s d, k (ix2 s d) = B.k d s) (hq : ∀ d c, q (ix2 d c) = B.q (hd c) d (pos 3 (tk c)))
    (hw : ∀ c, w (ix2 0 c) = B.qsc 3 (hd c) (tk c)) (j : Fin 64) (c : Fin 448) :
    k0_pay47 k pmask q w (ix2 j c) = B.pb 3 j c := by
  pointwise [k0_pay47]
  rw [mask448, sel_ite]; simp only [mk_pos3, hk, hq, hw]; rfl
-- ==== Proof.Stages2.lean ====
module

public import proofs.«01_k».proof.Proof.Stages

/-! The stages that follow the scaled queries and the masked scores: the row-by-lane products, the
gradients before their scales, and the pieces stored. -/

@[expose] public section

set_option maxRecDepth 16384

noncomputable section

namespace Cert.KernelIdeal.Val

open Idealize.ShloMosaic Idealize.ShloMosaic.TcCoe Idealize.SL.Sem
open Cert.KernelIdeal Cert.KernelIdeal.Gen

variable (B : Blk)

/-- A tensor of 512 columns: the rows of `do` of chunk `n`, then the masked products `do · v`. -/
def IsDa (n : Fin 4) (x : FVec Ideal S448x512 .bf16) : Prop :=
  (∀ c (e : Fin 384) h, x (ix2 c ⟨e.val, h⟩) = B.gb n c e) ∧
    ∀ c (l : Fin 128) h, x (ix2 c ⟨384 + l.val, h⟩) = B.ab n c l

section
variable (l : Fin 7 → Vec Ideal S1x1x64x384 .fp8e5m2) (v : FVec Ideal S256x384 .fp8e4m3)

theorem da3_at (hl : ∀ r t e, l r (ix4 0 0 t e) = B.g r (pos 3 t) e) (hv : ∀ s e, v (ix2 s e) = B.v s e) :
    IsDa B 3 (k0_pay52 (k0_pay49 (l 0) (l 1) (l 2) (l 3) (l 4) (l 5) (l 6))
      (k0_pay50 v (l 0) (l 1) (l 2) (l 3) (l 4) (l 5) (l 6)) (k0_pay51 k0_pay39)
      (Scalar.ofBits .f32 0x00000000#32)) := by
  refine ⟨fun c e h => ?_, fun c x h => ?_⟩
  · pointwise [k0_pay52, k0_pay49]
    rw [gcat_at, hl]; rfl
  · pointwise [k0_pay52, k0_pay50]
    simp only [gcat_at, mcat_at, hl, mk_lane1, hv, pay39_at _ _ 3 rfl, sel_ite]
    rfl

theorem da2_at (hl : ∀ r t e, l r (ix4 0 0 t e) = B.g r (pos 2 t) e) (hv : ∀ s e, v (ix2 s e) = B.v s e) :
    IsDa B 2 (k0_pay69 v k0_pay38 (k0_pay66 (l 0)) (k0_pay67 (l 1)) (k0_pay68 (l 2)) (l 3) (l 4) (l 5) (l 6)) := by
  rw [show k0_pay69 v k0_pay38 (k0_pay66 (l 0)) (k0_pay67 (l 1)) (k0_pay68 (l 2)) (l 3) (l 4) (l 5) (l 6) =
    k0_pay52 (k0_pay49 (l 0) (l 1) (l 2) (l 3) (l 4) (l 5) (l 6))
      (k0_pay50 v (l 0) (l 1) (l 2) (l 3) (l 4) (l 5) (l 6)) (k0_pay51 k0_pay38)
      (Scalar.ofBits .f32 0x00000000#32) from rfl]
  refine ⟨fun c e h => ?_, fun c x h => ?_⟩
  · pointwise [k0_pay52, k0_pay49]
    rw [gcat_at, hl]; rfl
  · pointwise [k0_pay52, k0_pay50]
    simp only [gcat_at, mcat_at, hl, mk_lane1, hv, pay38_at _ _ 2 rfl, sel_ite]
    rfl

/-- The masked products on the lower half of the lanes. -/
theorem ab0_at (n : Fin 4) (hn : half n = 0) (m : IVec S64x128 1)
    (hm : ∀ t x, m (ix2 t x) = if Own n t x then 1#1 else 0#1)
    (hl : ∀ r t e, l r (ix4 0 0 t e) = B.g r (pos n t) e) (hv : ∀ s e, v (ix2 s e) = B.v s e)
    (c : Fin 448) (x : Fin 128) :
    k0_pay124 v m (k0_pay122 (l 0) (l 1) (l 2) (l 3) (l 4) (l 5) (l 6)) (ix2 c x) = B.ab n c x := by
  rw [show k0_pay124 v m (k0_pay122 (l 0) (l 1) (l 2) (l 3) (l 4) (l 5) (l 6)) =
    truncf .bf16 (select (k0_pay51 m) (matmul dot_S448x384_S128x384_S448x128_1_1_0_0_n_n none
      (k0_pay48 (l 0) (l 1) (l 2) (l 3) (l 4) (l 5) (l 6))
      (extractStridedSlice S128x384 ![0, 0] v slices_S256x384_o0_0_S128x384)
      (constant (F := Ideal) S448x128 .f32 0x00000000#32)) (broadcast S448x128 (Scalar.ofBits (F := Ideal) .f32 0x00000000#32)))
      bitsLt_bf16_f32 from rfl]
  pointwise
  simp only [gcat_at, mcat_at, hl, mk_lane0, hv, hm, sel_ite]
  rw [Blk.ab, hn]; rfl

theorem da1_at (hl : ∀ r t e, l r (ix4 0 0 t e) = B.g r (pos 1 t) e) (hv : ∀ s e, v (ix2 s e) = B.v s e) :
    IsDa B 1 (k0_pay102 v k0_pay39 (k0_pay98 (l 0)) (k0_pay99 (l 1)) (k0_pay100 (l 2)) (k0_pay101 (l 3)) (l 4) (l 5) (l 6)) := by
  rw [show k0_pay102 v k0_pay39 (k0_pay98 (l 0)) (k0_pay99 (l 1)) (k0_pay100 (l 2)) (k0_pay101 (l 3)) (l 4) (l 5) (l 6) =
    concatenate S448x512 1 [⟨S448x384, k0_pay49 (l 0) (l 1) (l 2) (l 3) (l 4) (l 5) (l 6)⟩,
      ⟨S448x128, k0_pay124 v k0_pay39 (k0_pay122 (l 0) (l 1) (l 2) (l 3) (l 4) (l 5) (l 6))⟩]
      concatenates_S448x384_S448x128_S448x512_d1 from rfl]
  refine ⟨fun c e h => ?_, fun c x h => ?_⟩
  · pointwise [k0_pay49]
    rw [gcat_at, hl]; rfl
  · pointwise
    exact ab0_at B l v 1 rfl _ (fun t x => pay39_at t x 1 rfl) hl hv c x

theorem da0_at (hl : ∀ r t e, l r (ix4 0 0 t e) = B.g r (pos 0 t) e) (hv : ∀ s e, v (ix2 s e) = B.v s e) :
    IsDa B 0 (concatenate S448x512 1 [⟨S448x384, k0_pay123 (l 0) (l 1) (l 2) (l 3) (l 4) (l 5) (l 6)⟩,
      ⟨S448x128, k0_pay124 v k0_pay38 (k0_pay122 (l 0) (l 1) (l 2) (l 3) (l 4) (l 5) (l 6))⟩]
      concatenates_S448x384_S448x128_S448x512_d1) := by
  refine ⟨fun c e h => ?_, fun c x h => ?_⟩
  · pointwise [k0_pay123]
    rw [show k0_pay122 (l 0) (l 1) (l 2) (l 3) (l 4) (l 5) (l 6) = k0_pay48 (l 0) (l 1) (l 2) (l 3) (l 4) (l 5) (l 6) from rfl,
      gcat_at, hl]; rfl
  · pointwise
    exact ab0_at B l v 0 rfl _ (fun t x => pay38_at t x 0 rfl) hl hv c x
end
-- ==== Proof.Stages3.lean ====
module

public import proofs.«01_k».proof.Proof.Stages2

/-! The stages from the products to the pieces stored: states, gradients, scales. -/

@[expose] public section

set_option maxRecDepth 16384

noncomputable section

namespace Cert.KernelIdeal.Val

open Idealize.ShloMosaic Idealize.ShloMosaic.TcCoe Idealize.SL.Sem
open Cert.KernelIdeal Cert.KernelIdeal.Gen

variable (B : Blk)

section scores
variable (a : Fin 7 → FVec Ideal S1x128 .f32) (l : Fin 7 → Vec Ideal S1x1x192x64 .fp8e4m3)
  (k : FVec Ideal S256x192 .fp8e4m3)

theorem lane_pos (n : Fin 4) (m : Fin 2) (t : Fin 64) (x : Fin 128) (h : 128 * m.val + x.val = 64 * n.val + t.val) :
    lane m x = pos n t := Fin.ext h

/-- The scales of chunk `n`, cut from the rows of its half. -/
theorem qsc_lo (n : Fin 4) (m : Fin 2) (b : Fin 7 → EReal) (hn : n.val = 2 * m.val)
    (ha : ∀ r x, a r (ix2 0 x) = B.ds r (lane m x) * if x.val < 64 then B.qs n r else b r) (r : Fin 7) (t : Fin 64) (h) :
    a r (ix2 0 ⟨t.val, h⟩) = B.qsc n r t := by
  rw [ha, if_pos t.isLt, lane_pos n m t _ (by simp only; omega)]; rfl
theorem qsc_hi (n : Fin 4) (m : Fin 2) (b : Fin 7 → EReal) (hn : n.val = 2 * m.val + 1)
    (ha : ∀ r x, a r (ix2 0 x) = B.ds r (lane m x) * if x.val < 64 then b r else B.qs n r) (r : Fin 7) (t : Fin 64) (h) :
    a r (ix2 0 ⟨64 + t.val, h⟩) = B.qsc n r t := by
  rw [ha, if_neg (by simp), lane_pos n m t _ (by simp only; omega)]; rfl

theorem qb3_at (hl : ∀ r d t, l r (ix4 0 0 d t) = B.q r d (pos 3 t))
    (ha : ∀ r x, a r (ix2 0 x) = B.ds r (lane 1 x) * if x.val < 64 then B.qs 2 r else B.qs 3 r) (d : Fin 192) (c : Fin 448) :
    k0_pay46 (a 0) (a 1) (a 2) (a 3) (a 4) (a 5) (a 6) (l 0) (l 1) (l 2) (l 3) (l 4) (l 5) (l 6) (ix2 d c) = B.qb 3 d c := by
  pointwise [k0_pay46]
  rw [qcat_at, scat_hi, hl, qsc_hi B a 3 1 _ rfl ha]; rfl
theorem qb2_at (hl : ∀ r d t, l r (ix4 0 0 d t) = B.q r d (pos 2 t))
    (ha : ∀ r x, a r (ix2 0 x) = B.ds r (lane 1 x) * if x.val < 64 then B.qs 2 r else B.qs 3 r) (d : Fin 192) (c : Fin 448) :
    k0_pay64 (a 0) (a 1) (a 2) (a 3) (a 4) (a 5) (a 6) (k0_pay58 (l 0)) (k0_pay59 (l 1)) (k0_pay60 (l 2)) (k0_pay61 (l 3))
      (l 4) (l 5) (l 6) (ix2 d c) = B.qb 2 d c := by
  pointwise [k0_pay64]
  rw [show k0_pay62 (k0_pay58 (l 0)) (k0_pay59 (l 1)) (k0_pay60 (l 2)) (k0_pay61 (l 3)) (l 4) (l 5) (l 6) =
    k0_pay44 (l 0) (l 1) (l 2) (l 3) (l 4) (l 5) (l 6) from rfl,
    qcat_at, scat_lo, hl, qsc_lo B a 2 1 _ rfl ha]; rfl
theorem qb1_at (hl : ∀ r d t, l r (ix4 0 0 d t) = B.q r d (pos 1 t))
    (ha : ∀ r x, a r (ix2 0 x) = B.ds r (lane 0 x) * if x.val < 64 then B.qs 0 r else B.qs 1 r) (d : Fin 192) (c : Fin 448) :
    k0_pay96 (a 0) (a 1) (a 2) (a 3) (a 4) (a 5) (a 6) (k0_pay89 (l 0)) (k0_pay90 (l 1)) (k0_pay91 (l 2)) (k0_pay92 (l 3))
      (k0_pay93 (l 4)) (l 5) (l 6) (ix2 d c) = B.qb 1 d c := by
  pointwise [k0_pay96]
  rw [show k0_pay94 (k0_pay89 (l 0)) (k0_pay90 (l 1)) (k0_pay91 (l 2)) (k0_pay92 (l 3)) (k0_pay93 (l 4)) (l 5) (l 6) =
    k0_pay44 (l 0) (l 1) (l 2) (l 3) (l 4) (l 5) (l 6) from rfl,
    show k0_pay95 (a 0) (a 1) (a 2) (a 3) (a 4) (a 5) (a 6) = k0_pay45 (a 0) (a 1) (a 2) (a 3) (a 4) (a 5) (a 6) from rfl,
    qcat_at, scat_hi, hl, qsc_hi B a 1 0 _ rfl ha]; rfl
theorem qb0_at (hl : ∀ r d t, l r (ix4 0 0 d t) = B.q r d (pos 0 t))
    (ha : ∀ r x, a r (ix2 0 x) = B.ds r (lane 0 x) * if x.val < 64 then B.qs 0 r else B.qs 1 r) (d : Fin 192) (c : Fin 448) :
    k0_pay120 (k0_pay111 (l 0) (l 1) (l 2) (l 3) (l 4) (l 5) (l 6)) (k0_pay112 (a 0)) (k0_pay113 (a 1)) (k0_pay114 (a 2))
      (k0_pay115 (a 3)) (k0_pay116 (a 4)) (k0_pay117 (a 5)) (k0_pay118 (a 6)) (ix2 d c) = B.qb 0 d c := by
  pointwise [k0_pay120]
  rw [show k0_pay111 (l 0) (l 1) (l 2) (l 3) (l 4) (l 5) (l 6) = k0_pay44 (l 0) (l 1) (l 2) (l 3) (l 4) (l 5) (l 6) from rfl,
    show k0_pay119 (k0_pay112 (a 0)) (k0_pay113 (a 1)) (k0_pay114 (a 2)) (k0_pay115 (a 3)) (k0_pay116 (a 4))
      (k0_pay117 (a 5)) (k0_pay118 (a 6)) = k0_pay63 (a 0) (a 1) (a 2) (a 3) (a 4) (a 5) (a 6) from rfl,
    qcat_at, scat_lo, hl, qsc_lo B a 0 0 _ rfl ha]; rfl

theorem pb3'_at (hl : ∀ r d t, l r (ix4 0 0 d t) = B.q r d (pos 3 t)) (hk : ∀ s d, k (ix2 s d) = B.k d s)
    (ha : ∀ r x, a r (ix2 0 x) = B.ds r (lane 1 x) * if x.val < 64 then B.qs 2 r else B.qs 3 r) (j : Fin 64) (c : Fin 448) :
    k0_pay47 k pmask (k0_pay44 (l 0) (l 1) (l 2) (l 3) (l 4) (l 5) (l 6))
      (k0_pay45 (a 0) (a 1) (a 2) (a 3) (a 4) (a 5) (a 6)) (ix2 j c) = B.pb 3 j c :=
  pb3_at B k _ _ hk (fun d c => by rw [qcat_at, hl]) (fun c => by rw [scat_hi, qsc_hi B a 3 1 _ rfl ha]) j c
theorem pb2_at (hl : ∀ r d t, l r (ix4 0 0 d t) = B.q r d (pos 2 t)) (hk : ∀ s d, k (ix2 s d) = B.k d s)
    (ha : ∀ r x, a r (ix2 0 x) = B.ds r (lane 1 x) * if x.val < 64 then B.qs 2 r else B.qs 3 r) (j : Fin 64) (c : Fin 448) :
    k0_pay65 (a 0) (a 1) (a 2) (a 3) (a 4) (a 5) (a 6) k pmask (k0_pay58 (l 0)) (k0_pay59 (l 1)) (k0_pay60 (l 2)) (k0_pay61 (l 3))
      (l 4) (l 5) (l 6) (ix2 j c) = B.pb 2 j c := by
  pointwise [k0_pay65]
  simp only [show k0_pay62 (k0_pay58 (l 0)) (k0_pay59 (l 1)) (k0_pay60 (l 2)) (k0_pay61 (l 3)) (l 4) (l 5) (l 6) =
    k0_pay44 (l 0) (l 1) (l 2) (l 3) (l 4) (l 5) (l 6) from rfl]
  rw [mask448, sel_ite]; simp only [qcat_at, scat_lo, mk_pos2, hk, hl, qsc_lo B a 2 1 _ rfl ha]; rfl
theorem pb1_at (hl : ∀ r d t, l r (ix4 0 0 d t) = B.q r d (pos 1 t)) (hk : ∀ s d, k (ix2 s d) = B.k d s)
    (ha : ∀ r x, a r (ix2 0 x) = B.ds r (lane 0 x) * if x.val < 64 then B.qs 0 r else B.qs 1 r) (j : Fin 64) (c : Fin 448) :
    k0_pay97 (a 0) (a 1) (a 2) (a 3) (a 4) (a 5) (a 6) k pmask (k0_pay89 (l 0)) (k0_pay90 (l 1)) (k0_pay91 (l 2)) (k0_pay92 (l 3))
      (k0_pay93 (l 4)) (l 5) (l 6) (ix2 j c) = B.pb 1 j c := by
  pointwise [k0_pay97]
  simp only [show k0_pay94 (k0_pay89 (l 0)) (k0_pay90 (l 1)) (k0_pay91 (l 2)) (k0_pay92 (l 3)) (k0_pay93 (l 4)) (l 5) (l 6) =
    k0_pay44 (l 0) (l 1) (l 2) (l 3) (l 4) (l 5) (l 6) from rfl,
    show k0_pay95 (a 0) (a 1) (a 2) (a 3) (a 4) (a 5) (a 6) = k0_pay45 (a 0) (a 1) (a 2) (a 3) (a 4) (a 5) (a 6) from rfl]
  rw [mask448, sel_ite]; simp only [qcat_at, scat_hi, mk_pos1, hk, hl, qsc_hi B a 1 0 _ rfl ha]; rfl
theorem pb0_at (hl : ∀ r d t, l r (ix4 0 0 d t) = B.q r d (pos 0 t)) (hk : ∀ s d, k (ix2 s d) = B.k d s)
    (ha : ∀ r x, a r (ix2 0 x) = B.ds r (lane 0 x) * if x.val < 64 then B.qs 0 r else B.qs 1 r) (j : Fin 64) (c : Fin 448) :
    k0_pay121 k pmask (k0_pay111 (l 0) (l 1) (l 2) (l 3) (l 4) (l 5) (l 6)) (k0_pay112 (a 0)) (k0_pay113 (a 1)) (k0_pay114 (a 2))
      (k0_pay115 (a 3)) (k0_pay116 (a 4)) (k0_pay117 (a 5)) (k0_pay118 (a 6)) (ix2 j c) = B.pb 0 j c := by
  pointwise [k0_pay121]
  simp only [show k0_pay111 (l 0) (l 1) (l 2) (l 3) (l 4) (l 5) (l 6) = k0_pay44 (l 0) (l 1) (l 2) (l 3) (l 4) (l 5) (l 6) from rfl,
    show k0_pay119 (k0_pay112 (a 0)) (k0_pay113 (a 1)) (k0_pay114 (a 2)) (k0_pay115 (a 3)) (k0_pay116 (a 4))
      (k0_pay117 (a 5)) (k0_pay118 (a 6)) = k0_pay63 (a 0) (a 1) (a 2) (a 3) (a 4) (a 5) (a 6) from rfl]
  rw [mask448, sel_ite]; simp only [qcat_at, scat_lo, mk_pos0, hk, hl, qsc_lo B a 0 0 _ rfl ha]; rfl
end scores

section states
variable (x4 : Vec Ideal S1x1x192x256 .fp8e4m3) (x5 : Vec Ideal S1x1x256x384 .fp8e4m3)
  (hk : ∀ d s, x4 (ix4 0 0 d s) = B.k d s) (hv : ∀ s e, x5 (ix4 0 0 s e) = B.v s e)
include hk hv

theorem U0_at (d : Fin 192) (e : Fin 384) : k0_pay30 (B.ks 0) (B.vs 0) x4 x5 (ix2 d e) = B.U 0 d e := by
  pointwise [k0_pay30, k0_pay25, k0_pay29]
  simp only [hk, hv, mk_pos0]; rfl
theorem S1_at (d : Fin 192) (e : Fin 384) : k0_pay31 (B.ks 0) (B.vs 0) x4 x5 (ix2 d e) = B.S 1 d e := by
  rw [B.S_one]; exact U0_at B x4 x5 hk hv d e
theorem S2'_at (d : Fin 192) (e : Fin 384) :
    k0_pay34 (B.ks 1) (B.vs 1) (k0_pay30 (B.ks 0) (B.vs 0) x4 x5) (k0_pay32 x4) (k0_pay33 x5) (ix2 d e) = B.S 2 d e := by
  pointwise [k0_pay34, k0_pay32, k0_pay33, k0_pay25, k0_pay29]
  rw [B.S_two, U0_at B x4 x5 hk hv]
  simp only [hk, hv, mk_pos1]; rfl
theorem S2_at (d : Fin 192) (e : Fin 384) :
    k0_pay35 (B.ks 1) (B.vs 1) (k0_pay30 (B.ks 0) (B.vs 0) x4 x5) (k0_pay32 x4) (k0_pay33 x5) (ix2 d e) = B.S 2 d e :=
  S2'_at B x4 x5 hk hv d e
theorem S3_at (d : Fin 192) (e : Fin 384) :
    k0_pay36 (B.ks 1) (B.ks 2) (B.vs 1) (B.vs 2) (k0_pay25 x4) (k0_pay29 x5) (k0_pay30 (B.ks 0) (B.vs 0) x4 x5)
      (k0_pay32 x4) (k0_pay33 x5) (ix2 d e) = B.S 3 d e := by
  pointwise [k0_pay36, k0_pay25, k0_pay29]
  rw [B.S_three, S2'_at B x4 x5 hk hv, B.S_two]
  simp only [hk, hv, mk_pos2]; rfl
omit hv in
theorem kT_at (d : Fin 192) (s : Fin 256) :
    k0_pay37 k0_pay1 (B.ks 0) (B.ks 1) (B.ks 2) (B.ks 3) (B.vs 0) (B.vs 1) (B.vs 2) (B.vs 3) (k0_pay26 x4) (ix2 d s) =
      B.kts d s := by
  pointwise [k0_pay37, k0_pay26, k0_pay25]
  rw [hk, Blk.kts]
  simp only [pay1_at, sel_ite]
  have key : ∀ n : Fin 4, s.val / 64 = n.val → B.ks n * B.vs n = B.ks (chk s) * B.vs (chk s) := fun n h => by
    rw [show chk s = n from Fin.ext h]
  congr 1
  split
  · split
    · exact key 0 (by rw [Fin.val_zero]; omega)
    · exact key 1 (by rw [Fin.val_one]; omega)
  · split
    · exact key 2 (by rw [Fin.val_two]; omega)
    · exact key 3 (by rw [show (3 : Fin 4).val = 3 from rfl]; omega)
omit hv in
theorem k8_at (s : Fin 256) (d : Fin 192) : k0_pay28 x4 (ix2 s d) = B.k d s := by
  pointwise [k0_pay28, k0_pay27, k0_pay26, k0_pay25]
  rw [hk]
omit hv in
theorem kb_at (s : Fin 256) (d : Fin 192) : k0_pay27 x4 (ix2 s d) = B.k d s := by
  pointwise [k0_pay27, k0_pay26, k0_pay25]
  rw [hk]
omit hk in
theorem v_at (s : Fin 256) (e : Fin 384) : k0_pay29 x5 (ix2 s e) = B.v s e := by
  pointwise [k0_pay29]
  rw [hv]
end states
-- ==== Proof.Stages4.lean ====
module

public import proofs.«01_k».proof.Proof.Stages3

/-! The gradients of one block as the kernel stores them, from the stages before them. -/

@[expose] public section

set_option maxRecDepth 16384

noncomputable section

namespace Cert.KernelIdeal.Val

open Idealize.ShloMosaic Idealize.ShloMosaic.TcCoe Idealize.SL.Sem
open Cert.KernelIdeal Cert.KernelIdeal.Gen

variable (B : Blk)

/-- The scale, read from the program's constant. -/
theorem sm_eq : Ideal.ofBits FTy.f32 1033096506#32 = sm := rfl

section
variable (v : FVec Ideal S256x384 .fp8e4m3) (kb : FVec Ideal S256x192 .bf16) (kT : FVec Ideal S192x256 .bf16)
  (S : FVec Ideal S192x384 .bf16) (D : FVec Ideal S192x384 .f32)
  (qb : FVec Ideal S192x448 .bf16) (pb : FVec Ideal S64x448 .bf16)

/-! Chunk 3. -/
section
variable (g : FVec Ideal S448x384 .bf16) (a : FVec Ideal S448x128 .f32) (m : IVec S448x128 1) (z : Elt Ideal .f32)
  (hda : IsDa B 3 (k0_pay52 g a m z))
include hda

theorem dq3_at (hS : ∀ d e, S (ix2 d e) = B.S 3 d e) (hkT : ∀ d s, kT (ix2 d s) = B.kts d s) (c : Fin 448) (d : Fin 192) :
    k0_pay53 S kT g a m z (ix2 c d) = B.dqk 3 c d := by
  pointwise [k0_pay53]
  simp only [hda.1, hda.2, hS, hkT, mk_lane1]; rfl
theorem G3_at (hqb : ∀ d c, qb (ix2 d c) = B.qb 3 d c) (d : Fin 192) (l : Fin 128) :
    k0_pay55 qb pb g a m z (ix2 d l) = B.G 3 d l := by
  pointwise [k0_pay55, k0_pay54]
  simp only [hda.2, hqb]; rfl
theorem W3_at (hqb : ∀ d c, qb (ix2 d c) = B.qb 3 d c) (d : Fin 192) (e : Fin 384) :
    k0_pay56 qb pb g a m z (ix2 d e) = B.W 3 d e := by
  pointwise [k0_pay56, k0_pay54]
  simp only [hda.1, hqb]; rfl
theorem dv3_at (hpb : ∀ j c, pb (ix2 j c) = B.pb 3 j c) (j : Fin 64) (e : Fin 384) :
    k0_pay57 (B.ks 3) qb pb g a m z (ix4 0 0 j e) = B.dvk 3 j e := by
  pointwise [k0_pay57, k0_pay54]
  simp only [hda.1, hpb, Blk.dvk, B.D_three, mul_zero, Finset.sum_const_zero, add_zero]; rfl
end

/-! Chunk 2. -/
section
variable (g0 g1 g2 : FVec Ideal S64x384 .fp8e5m2) (g3 g4 g5 g6 : Vec Ideal S1x1x64x384 .fp8e5m2)
  (m : IVec S64x128 1) (hda : IsDa B 2 (k0_pay69 v m g0 g1 g2 g3 g4 g5 g6))
include hda

theorem dq2_at (hS : ∀ d e, S (ix2 d e) = B.S 2 d e) (hkT : ∀ d s, kT (ix2 d s) = B.kts d s) (c : Fin 448) (d : Fin 192) :
    k0_pay70 v S kT m g0 g1 g2 g3 g4 g5 g6 (ix2 c d) = B.dqk 2 c d := by
  pointwise [k0_pay70]
  simp only [hda.1, hda.2, hS, hkT, mk_lane1]; rfl
theorem W2_at (hqb : ∀ d c, qb (ix2 d c) = B.qb 2 d c) (d : Fin 192) (e : Fin 384) :
    k0_pay75 v m qb pb g0 g1 g2 g3 g4 g5 g6 (ix2 d e) = B.W 2 d e := by
  pointwise [k0_pay75, k0_pay71]
  simp only [hda.1, hqb]; rfl
theorem dvp2_at (hpb : ∀ j c, pb (ix2 j c) = B.pb 2 j c) (hkb : ∀ s d, kb (ix2 s d) = B.k d s)
    (hD : ∀ d e, D (ix2 d e) = B.D 2 d e) (j : Fin 64) (e : Fin 384) :
    k0_pay77 (B.ks 2) (k0_pay74 kb v m D qb pb g0 g1 g2 g3 g4 g5 g6) (ix4 0 0 j e) = B.dvk 2 j e := by
  pointwise [k0_pay77, k0_pay74, k0_pay71, k0_pay72]
  simp only [hda.1, hpb, hkb, hD, mk_pos2]; rfl
theorem Y2_at (hqb : ∀ d c, qb (ix2 d c) = B.qb 2 d c) (hv : ∀ s e, v (ix2 s e) = B.v s e)
    (hD : ∀ d e, D (ix2 d e) = B.D 2 d e) (d : Fin 192) (l : Fin 128) :
    k0_pay73 k0_pay1 v m D qb pb g0 g1 g2 g3 g4 g5 g6 (ix2 d l) =
      B.G 2 d l + if l.val < 64 then B.H 2 d (lane 1 l) else 0 := by
  pointwise [k0_pay73, k0_pay71, k0_pay72]
  simp only [hda.2, hqb, hv, hD, mk_lane1, pay1_at, sel_ite]; rfl
end

/-! Chunk 1. -/
section
variable (g0 g1 g2 g3 : FVec Ideal S64x384 .fp8e5m2) (g4 g5 g6 : Vec Ideal S1x1x64x384 .fp8e5m2)
  (m : IVec S64x128 1) (hda : IsDa B 1 (k0_pay102 v m g0 g1 g2 g3 g4 g5 g6))
include hda

theorem dq1_at (hS : ∀ d e, S (ix2 d e) = B.S 1 d e) (hkT : ∀ d s, kT (ix2 d s) = B.kts d s) (c : Fin 448) (d : Fin 192) :
    k0_pay103 v S kT m g0 g1 g2 g3 g4 g5 g6 (ix2 c d) = B.dqk 1 c d := by
  pointwise [k0_pay103]
  simp only [hda.1, hda.2, hS, hkT, mk_lane0]; rfl
theorem D0_at (hqb : ∀ d c, qb (ix2 d c) = B.qb 1 d c) (hD : ∀ d e, D (ix2 d e) = B.D 1 d e) (d : Fin 192) (e : Fin 384) :
    k0_pay107 v m D qb pb g0 g1 g2 g3 g4 g5 g6 (ix2 d e) = B.D 0 d e := by
  pointwise [k0_pay107, k0_pay104]
  simp only [hda.1, hqb, hD]; rw [B.D_one, B.D_zero]; rfl
theorem dvp1_at (hpb : ∀ j c, pb (ix2 j c) = B.pb 1 j c) (hkb : ∀ s d, kb (ix2 s d) = B.k d s)
    (hD : ∀ d e, D (ix2 d e) = B.D 1 d e) (j : Fin 64) (e : Fin 384) :
    k0_pay110 (k0_pay108 (B.ks 1) kb v m D qb pb g0 g1 g2 g3 g4 g5 g6) k0_pay109 (ix4 0 0 j e) = B.dvk 1 j e := by
  pointwise [k0_pay110, k0_pay108, k0_pay109, k0_pay104, k0_pay105]
  simp only [hda.1, hpb, hkb, hD, mk_pos1]; rfl
theorem Y1_at (hqb : ∀ d c, qb (ix2 d c) = B.qb 1 d c) (hv : ∀ s e, v (ix2 s e) = B.v s e)
    (hD : ∀ d e, D (ix2 d e) = B.D 1 d e) (d : Fin 192) (l : Fin 128) :
    k0_pay106 k0_pay1 v m D qb pb g0 g1 g2 g3 g4 g5 g6 (ix2 d l) =
      B.G 1 d l + if l.val < 64 then 0 else B.H 1 d (lane 0 l) := by
  pointwise [k0_pay106, k0_pay104, k0_pay105]
  rw [show ∀ p : Prop, ∀ [Decidable p], (if p then (0 : EReal) else B.H 1 d (lane 0 l)) =
    Scalar.select (if p then 0#1 else 1#1) (B.H 1 d (lane 0 l)) 0 from fun p _ => by split <;> rfl, ← npay1_at]
  simp only [hda.2, hqb, hv, hD, mk_lane0]; rfl
end

/-! Chunk 0. -/
section
variable (g : FVec Ideal S448x384 .bf16) (g8 : FVec Ideal S448x384 .fp8e5m2) (m : IVec S64x128 1)
  (hda : IsDa B 0 (concatenate S448x512 1 [⟨S448x384, g⟩, ⟨S448x128, k0_pay124 v m g8⟩]
    concatenates_S448x384_S448x128_S448x512_d1))
include hda

theorem da0_g (c : Fin 448) (e : Fin 384) : g (ix2 c e) = B.gb 0 c e := by
  have h := hda.1 c e (by omega)
  pointwise at h
  exact h
theorem da0_a (c : Fin 448) (l : Fin 128) : k0_pay124 v m g8 (ix2 c l) = B.ab 0 c l := by
  have h := hda.2 c l (by omega)
  pointwise at h
  exact h
theorem dq0_at (hkT : ∀ d s, kT (ix2 d s) = B.kts d s) (c : Fin 448) (d : Fin 192) :
    k0_pay125 v kT m g8 (ix2 c d) = B.dqk 0 c d := by
  pointwise [k0_pay125]
  simp only [da0_a B v g g8 m hda, hkT, mk_lane0, Blk.dqk, B.S_zero, mul_zero, Finset.sum_const_zero, zero_add]; rfl
theorem dv0_at (hpb : ∀ j c, pb (ix2 j c) = B.pb 0 j c) (hkb : ∀ s d, kb (ix2 s d) = B.k d s)
    (hD : ∀ d e, D (ix2 d e) = B.D 0 d e) (j : Fin 64) (e : Fin 384) :
    k0_pay128 (B.ks 0) kb v m D qb pb g8 g (ix4 0 0 j e) = B.dvk 0 j e := by
  pointwise [k0_pay128, k0_pay126, k0_pay127]
  simp only [da0_g B v g g8 m hda, hpb, hkb, hD, mk_pos0]; rfl
theorem dk0_at (Y : FVec Ideal S192x128 .f32) (hqb : ∀ d c, qb (ix2 d c) = B.qb 0 d c) (hv : ∀ s e, v (ix2 s e) = B.v s e)
    (hD : ∀ d e, D (ix2 d e) = B.D 0 d e)
    (hY : ∀ d (l : Fin 128), Y (ix2 d l) = B.G 1 d l + if l.val < 64 then 0 else B.H 1 d (lane 0 l)) (d : Fin 192) (l : Fin 128) :
    k0_pay130 (k0_pay129 k0_pay1 (B.vs 0) (B.vs 1) v m Y D qb pb g8 g) (ix4 0 0 d l) = B.dkk 0 0 1 d l := by
  pointwise [k0_pay130, k0_pay129, k0_pay126, k0_pay127]
  simp only [da0_a B v g g8 m hda, hqb, hv, hD, hY, mk_lane0, pay1_at, sel_ite]; rfl
end

theorem dk1_at (G Y : FVec Ideal S192x128 .f32) (hG : ∀ d l, G (ix2 d l) = B.G 3 d l)
    (hY : ∀ d (l : Fin 128), Y (ix2 d l) = B.G 2 d l + if l.val < 64 then B.H 2 d (lane 1 l) else 0) (d : Fin 192) (l : Fin 128) :
    k0_pay78 k0_pay1 (B.vs 2) (B.vs 3) G Y (ix4 0 0 d l) = B.dkk 1 2 3 d l := by
  pointwise [k0_pay78]
  simp only [hG, hY, pay1_at, sel_ite, Blk.dkk, B.H_three, ite_self, add_zero]; rfl

/-! The seven rows of the gradient of the queries: two chunks side by side, times the row's scale. -/

/-- The value stored for head `r`, feature `d`, lane `l` of a half, from its two chunks. -/
def dqt (B : Blk) (m : Fin 2) (n₀ n₁ : Fin 4) (r : Fin 7) (d : Fin 192) (l : Fin 128) : EReal :=
  (if h : l.val < 64 then B.dqk n₀ (col r ⟨l.val, h⟩) d else B.dqk n₁ (col r ⟨l.val - 64, by omega⟩) d) * B.ds r (lane m l)

theorem dqt_fin (m : Fin 2) (n₀ n₁ : Fin 4) (r : Fin 7) (d : Fin 192) (l : Fin 128)
    (i₀ : l.val < 64 → Fin 448) (i₁ : ¬ l.val < 64 → Fin 448)
    (h₀ : ∀ h, (i₀ h).val = 64 * r.val + l.val) (h₁ : ∀ h, (i₁ h).val = 64 * r.val + (l.val - 64)) :
    (if h : l.val < 64 then B.dqk n₀ (i₀ h) d else B.dqk n₁ (i₁ h) d) * B.ds r (lane m l) = dqt B m n₀ n₁ r d l := by
  unfold dqt
  congr 1
  split
  · exact congrArg (B.dqk n₀ · d) (Fin.ext (h₀ _))
  · exact congrArg (B.dqk n₁ · d) (Fin.ext (h₁ _))

section
variable (w : Vec Ideal S1x1x256 .f32) (X Y : FVec Ideal S448x192 .bf16) (d : Fin 192) (l : Fin 128)

/-! The half of chunks 2 and 3. -/
section
variable (hX : ∀ c d, X (ix2 c d) = B.dqk 3 c d) (hY : ∀ c d, Y (ix2 c d) = B.dqk 2 c d)
include hX hY

theorem dqt1_0 (hw : ∀ s, w (ix3 0 0 s) = B.ds 0 s) : k0_pay79 (k0_pay2 w) X Y (ix4 0 0 d l) = dqt B 1 2 3 0 d l := by
  pointwise [k0_pay79, k0_pay2]
  simp only [hX, hY, hw, mk_lane1]
  exact dqt_fin B 1 2 3 0 d l _ _ (fun _ => by first | rfl | simp) (fun _ => by first | rfl | simp)
theorem dqt1_1 (hw : ∀ s, w (ix3 0 0 s) = B.ds 1 s) : k0_pay81 (k0_pay80 (k0_pay3 w) X Y) (ix4 0 0 d l) = dqt B 1 2 3 1 d l := by
  pointwise [k0_pay81, k0_pay80, k0_pay3]
  simp only [hX, hY, hw, mk_lane1]
  exact dqt_fin B 1 2 3 1 d l _ _ (fun _ => by first | rfl | simp) (fun _ => by first | rfl | simp)
theorem dqt1_2 (hw : ∀ s, w (ix3 0 0 s) = B.ds 2 s) : k0_pay82 (k0_pay4 w) X Y (ix4 0 0 d l) = dqt B 1 2 3 2 d l := by
  pointwise [k0_pay82, k0_pay4]
  simp only [hX, hY, hw, mk_lane1]
  exact dqt_fin B 1 2 3 2 d l _ _ (fun _ => by first | rfl | simp) (fun _ => by first | rfl | simp)
theorem dqt1_3 (hw : ∀ s, w (ix3 0 0 s) = B.ds 3 s) : k0_pay83 (k0_pay5 w) X Y (ix4 0 0 d l) = dqt B 1 2 3 3 d l := by
  pointwise [k0_pay83, k0_pay5]
  simp only [hX, hY, hw, mk_lane1]
  exact dqt_fin B 1 2 3 3 d l _ _ (fun _ => by first | rfl | simp) (fun _ => by first | rfl | simp)
theorem dqt1_4 (hw : ∀ s, w (ix3 0 0 s) = B.ds 4 s) : k0_pay84 (k0_pay6 w) X Y (ix4 0 0 d l) = dqt B 1 2 3 4 d l := by
  pointwise [k0_pay84, k0_pay6]
  simp only [hX, hY, hw, mk_lane1]
  exact dqt_fin B 1 2 3 4 d l _ _ (fun _ => by first | rfl | simp) (fun _ => by first | rfl | simp)
theorem dqt1_5 (hw : ∀ s, w (ix3 0 0 s) = B.ds 5 s) : k0_pay87 (k0_pay85 X Y) (k0_pay86 (k0_pay7 w)) (ix4 0 0 d l) = dqt B 1 2 3 5 d l := by
  pointwise [k0_pay87, k0_pay85, k0_pay86, k0_pay7]
  simp only [hX, hY, hw, mk_lane1]
  exact dqt_fin B 1 2 3 5 d l _ _ (fun _ => by first | rfl | simp) (fun _ => by first | rfl | simp)
theorem dqt1_6 (hw : ∀ s, w (ix3 0 0 s) = B.ds 6 s) : k0_pay88 (k0_pay8 w) X Y (ix4 0 0 d l) = dqt B 1 2 3 6 d l := by
  pointwise [k0_pay88, k0_pay8]
  simp only [hX, hY, hw, mk_lane1]
  exact dqt_fin B 1 2 3 6 d l _ _ (fun _ => by first | rfl | simp) (fun _ => by first | rfl | simp)
end

/-! The half of chunks 0 and 1. -/
section
variable (hX : ∀ c d, X (ix2 c d) = B.dqk 1 c d) (hY : ∀ c d, Y (ix2 c d) = B.dqk 0 c d)
include hX hY

theorem dqt0_0 (hw : ∀ s, w (ix3 0 0 s) = B.ds 0 s) : k0_pay131 (k0_pay2 w) X Y (ix4 0 0 d l) = dqt B 0 0 1 0 d l := by
  pointwise [k0_pay131, k0_pay2]
  simp only [hX, hY, hw, mk_lane0]
  exact dqt_fin B 0 0 1 0 d l _ _ (fun _ => by first | rfl | simp) (fun _ => by first | rfl | simp)
theorem dqt0_1 (hw : ∀ s, w (ix3 0 0 s) = B.ds 1 s) : k0_pay132 (k0_pay3 w) X Y (ix4 0 0 d l) = dqt B 0 0 1 1 d l := by
  pointwise [k0_pay132, k0_pay3]
  simp only [hX, hY, hw, mk_lane0]
  exact dqt_fin B 0 0 1 1 d l _ _ (fun _ => by first | rfl | simp) (fun _ => by first | rfl | simp)
theorem dqt0_2 (hw : ∀ s, w (ix3 0 0 s) = B.ds 2 s) : k0_pay133 (k0_pay4 w) X Y (ix4 0 0 d l) = dqt B 0 0 1 2 d l := by
  pointwise [k0_pay133, k0_pay4]
  simp only [hX, hY, hw, mk_lane0]
  exact dqt_fin B 0 0 1 2 d l _ _ (fun _ => by first | rfl | simp) (fun _ => by first | rfl | simp)
theorem dqt0_3 (hw : ∀ s, w (ix3 0 0 s) = B.ds 3 s) : k0_pay136 (k0_pay134 X Y) (k0_pay135 (k0_pay5 w)) (ix4 0 0 d l) = dqt B 0 0 1 3 d l := by
  pointwise [k0_pay136, k0_pay134, k0_pay135, k0_pay5]
  simp only [hX, hY, hw, mk_lane0]
  exact dqt_fin B 0 0 1 3 d l _ _ (fun _ => by first | rfl | simp) (fun _ => by first | rfl | simp)
theorem dqt0_4 (hw : ∀ s, w (ix3 0 0 s) = B.ds 4 s) : k0_pay137 (k0_pay6 w) X Y (ix4 0 0 d l) = dqt B 0 0 1 4 d l := by
  pointwise [k0_pay137, k0_pay6]
  simp only [hX, hY, hw, mk_lane0]
  exact dqt_fin B 0 0 1 4 d l _ _ (fun _ => by first | rfl | simp) (fun _ => by first | rfl | simp)
theorem dqt0_5 (hw : ∀ s, w (ix3 0 0 s) = B.ds 5 s) : k0_pay138 (k0_pay7 w) X Y (ix4 0 0 d l) = dqt B 0 0 1 5 d l := by
  pointwise [k0_pay138, k0_pay7]
  simp only [hX, hY, hw, mk_lane0]
  exact dqt_fin B 0 0 1 5 d l _ _ (fun _ => by first | rfl | simp) (fun _ => by first | rfl | simp)
theorem dqt0_6 (hw : ∀ s, w (ix3 0 0 s) = B.ds 6 s) : k0_pay139 (k0_pay8 w) X Y (ix4 0 0 d l) = dqt B 0 0 1 6 d l := by
  pointwise [k0_pay139, k0_pay8]
  simp only [hX, hY, hw, mk_lane0]
  exact dqt_fin B 0 0 1 6 d l _ _ (fun _ => by first | rfl | simp) (fun _ => by first | rfl | simp)
end
end
end
-- ==== Proof.Block.lean ====
module

public import proofs.«01_k».proof.Proof.Stages4

/-! What one block of the kernel computes: the tensors of a grid step, named in the kernel's order, and
their values in the block's mathematics. -/

@[expose] public section

set_option maxRecDepth 16384

noncomputable section

namespace Cert.KernelIdeal.Val

open Idealize.ShloMosaic Idealize.ShloMosaic.TcCoe Idealize.SL.Sem
open Cert.KernelIdeal Cert.KernelIdeal.Gen

/-- The eight input blocks of a grid step. -/
structure In where
  i : grid0.Coords
  x0 : Vec Ideal S6x4x14 .f32
  x1 : Vec Ideal S4x2x6 .f32
  x2 : Vec Ideal S4x2x6 .f32
  x3 : Vec Ideal S1x7x192x256 .fp8e4m3
  x4 : Vec Ideal S1x1x192x256 .fp8e4m3
  x5 : Vec Ideal S1x1x256x384 .fp8e4m3
  x6 : Vec Ideal S1x7x256x384 .fp8e5m2
  x7 : Vec Ideal S1x14x256 .f32

namespace In
variable (X : In)

/-- The batch row of the step. -/
def b : Fin 6 := ⟨(X.i 0).val, (X.i 0).isLt⟩
/-- The key/value head of the step. -/
def kv : Fin 2 := ⟨(X.i 1).val, (X.i 1).isLt⟩
/-- The query head `r` of the step among all fourteen. -/
def qh (r : Fin 7) : Fin 14 := ⟨7 * (X.i 1).val + r.val, by have := (X.i 1).isLt; change (X.i 1).val < 2 at this; omega⟩

/-- The block's data in the mathematics' terms. -/
def blk : Blk where
  q r d s := X.x3 (ix4 0 r d s)
  k d s := X.x4 (ix4 0 0 d s)
  v s e := X.x5 (ix4 0 0 s e)
  g r s e := X.x6 (ix4 0 r s e)
  qs n r := X.x0 (ix3 X.b n (X.qh r))
  ks n := X.x1 (ix3 n X.kv X.b)
  vs n := X.x2 (ix3 n X.kv X.b)
  ds r s := X.x7 (ix3 0 (X.qh r) s)

/-! The loads. -/

/-- The `do` scales of head `r`. -/
abbrev w (r : Fin 7) : Vec Ideal S1x1x256 .f32 :=
  View.ld X.x7 (Rect.unit (k0_off1 X.i (BitVec.ofNat 32 r.val)) ![1, 1, 256] (k0_off1_inb X.i r))
/-- The `q` tile of head `r` and chunk `n`. -/
abbrev qt (n : Fin 4) (r : Fin 7) : Vec Ideal S1x1x192x64 .fp8e4m3 :=
  View.ld X.x3 (Rect.unit ![0, r.val, 0, 64 * n.val] ![1, 1, 192, 64] (by
    intro a; fin_cases a <;> simp [Shape.size] <;> omega))
/-- The `do` tile of head `r` and chunk `n`. -/
abbrev gt (n : Fin 4) (r : Fin 7) : Vec Ideal S1x1x64x384 .fp8e5m2 :=
  View.ld X.x6 (Rect.unit ![0, r.val, 64 * n.val, 0] ![1, 1, 64, 384] (by
    intro a; fin_cases a <;> simp [Shape.size] <;> omega))
/-! The scalars of head `r`, one per chunk. -/
abbrev qs0 (r : Fin 7) : Elt Ideal .f32 := View.ld X.x0 (Rect.unit (k0_off2 X.i (BitVec.ofNat 32 r.val)) ![1, 1, 1] (k0_off2_inb X.i r)) (Shape.Idx.first (show 0 < S1x1x1.numel by decide))
abbrev qs1 (r : Fin 7) : Elt Ideal .f32 := View.ld X.x0 (Rect.unit (k0_off3 X.i (BitVec.ofNat 32 r.val)) ![1, 1, 1] (k0_off3_inb X.i r)) (Shape.Idx.first (show 0 < S1x1x1.numel by decide))
abbrev qs2 (r : Fin 7) : Elt Ideal .f32 := View.ld X.x0 (Rect.unit (k0_off4 X.i (BitVec.ofNat 32 r.val)) ![1, 1, 1] (k0_off4_inb X.i r)) (Shape.Idx.first (show 0 < S1x1x1.numel by decide))
abbrev qs3 (r : Fin 7) : Elt Ideal .f32 := View.ld X.x0 (Rect.unit (k0_off5 X.i (BitVec.ofNat 32 r.val)) ![1, 1, 1] (k0_off5_inb X.i r)) (Shape.Idx.first (show 0 < S1x1x1.numel by decide))
abbrev ks0 : Elt Ideal .f32 := View.ld X.x1 (Rect.unit (k0_off6 X.i) ![1, 1, 1] (k0_off6_inb X.i)) (Shape.Idx.first (show 0 < S1x1x1.numel by decide))
abbrev ks1 : Elt Ideal .f32 := View.ld X.x1 (Rect.unit (k0_off7 X.i) ![1, 1, 1] (k0_off7_inb X.i)) (Shape.Idx.first (show 0 < S1x1x1.numel by decide))
abbrev ks2 : Elt Ideal .f32 := View.ld X.x1 (Rect.unit (k0_off8 X.i) ![1, 1, 1] (k0_off8_inb X.i)) (Shape.Idx.first (show 0 < S1x1x1.numel by decide))
abbrev ks3 : Elt Ideal .f32 := View.ld X.x1 (Rect.unit (k0_off9 X.i) ![1, 1, 1] (k0_off9_inb X.i)) (Shape.Idx.first (show 0 < S1x1x1.numel by decide))
abbrev vs0 : Elt Ideal .f32 := View.ld X.x2 (Rect.unit (k0_off6 X.i) ![1, 1, 1] (k0_off6_inb X.i)) (Shape.Idx.first (show 0 < S1x1x1.numel by decide))
abbrev vs1 : Elt Ideal .f32 := View.ld X.x2 (Rect.unit (k0_off7 X.i) ![1, 1, 1] (k0_off7_inb X.i)) (Shape.Idx.first (show 0 < S1x1x1.numel by decide))
abbrev vs2 : Elt Ideal .f32 := View.ld X.x2 (Rect.unit (k0_off8 X.i) ![1, 1, 1] (k0_off8_inb X.i)) (Shape.Idx.first (show 0 < S1x1x1.numel by decide))
abbrev vs3 : Elt Ideal .f32 := View.ld X.x2 (Rect.unit (k0_off9 X.i) ![1, 1, 1] (k0_off9_inb X.i)) (Shape.Idx.first (show 0 < S1x1x1.numel by decide))

instance closedOff1 (i : grid0.Coords) (r : Fin 7) : ClosedOff (k0_off1 i (BitVec.ofNat 32 r.val)) := ⟨_, k0_off1_eq i r⟩
instance closedOff2 (i : grid0.Coords) (r : Fin 7) : ClosedOff (k0_off2 i (BitVec.ofNat 32 r.val)) := ⟨_, k0_off2_eq i r⟩
instance closedOff3 (i : grid0.Coords) (r : Fin 7) : ClosedOff (k0_off3 i (BitVec.ofNat 32 r.val)) := ⟨_, k0_off3_eq i r⟩
instance closedOff4 (i : grid0.Coords) (r : Fin 7) : ClosedOff (k0_off4 i (BitVec.ofNat 32 r.val)) := ⟨_, k0_off4_eq i r⟩
instance closedOff5 (i : grid0.Coords) (r : Fin 7) : ClosedOff (k0_off5 i (BitVec.ofNat 32 r.val)) := ⟨_, k0_off5_eq i r⟩
theorem w_at (r : Fin 7) (s : Fin 256) : X.w r (ix3 0 0 s) = X.blk.ds r s := by
  unfold w
  pointwise
  simp [k0_off1_eq]
  rfl
theorem qt_at (n : Fin 4) (r : Fin 7) (d : Fin 192) (t : Fin 64) : X.qt n r (ix4 0 0 d t) = X.blk.q r d (pos n t) := by
  unfold qt
  pointwise
  rfl
theorem gt_at (n : Fin 4) (r : Fin 7) (t : Fin 64) (e : Fin 384) : X.gt n r (ix4 0 0 t e) = X.blk.g r (pos n t) e := by
  unfold gt
  pointwise
  rfl
theorem qs0_at (r : Fin 7) : X.qs0 r = X.blk.qs 0 r := by
  unfold qs0
  pointwise
  simp [k0_off2_eq]
  rfl
theorem qs1_at (r : Fin 7) : X.qs1 r = X.blk.qs 1 r := by
  unfold qs1
  pointwise
  simp [k0_off3_eq]
  rfl
theorem qs2_at (r : Fin 7) : X.qs2 r = X.blk.qs 2 r := by
  unfold qs2
  pointwise
  simp [k0_off4_eq]
  rfl
theorem qs3_at (r : Fin 7) : X.qs3 r = X.blk.qs 3 r := by
  unfold qs3
  pointwise
  simp [k0_off5_eq]
  rfl
theorem ks0_at : X.ks0 = X.blk.ks 0 := by
  unfold ks0
  pointwise
  simp [k0_off6_eq]
  rfl
theorem ks1_at : X.ks1 = X.blk.ks 1 := by
  unfold ks1
  pointwise
  simp [k0_off7_eq]
  rfl
theorem ks2_at : X.ks2 = X.blk.ks 2 := by
  unfold ks2
  pointwise
  simp [k0_off8_eq]
  rfl
theorem ks3_at : X.ks3 = X.blk.ks 3 := by
  unfold ks3
  pointwise
  simp [k0_off9_eq]
  rfl
theorem vs0_at : X.vs0 = X.blk.vs 0 := by
  unfold vs0
  pointwise
  simp [k0_off6_eq]
  rfl
theorem vs1_at : X.vs1 = X.blk.vs 1 := by
  unfold vs1
  pointwise
  simp [k0_off7_eq]
  rfl
theorem vs2_at : X.vs2 = X.blk.vs 2 := by
  unfold vs2
  pointwise
  simp [k0_off8_eq]
  rfl
theorem vs3_at : X.vs3 = X.blk.vs 3 := by
  unfold vs3
  pointwise
  simp [k0_off9_eq]
  rfl

/-! The tensors of the step, chunk 3 first. -/
abbrev wt0 (r : Fin 7) : FVec Ideal S1x128 .f32 :=
  k0_pay9 k0_pay1 (k0_pay2 (X.w r)) (X.qs0 r) (X.qs1 r)
abbrev wt1 (r : Fin 7) : FVec Ideal S1x128 .f32 :=
  k0_pay10 k0_pay1 (k0_pay2 (X.w r)) (X.qs2 r) (X.qs3 r)
abbrev k8 : FVec Ideal S256x192 .fp8e4m3 :=
  k0_pay28 X.x4
abbrev kb : FVec Ideal S256x192 .bf16 :=
  k0_pay27 X.x4
abbrev v8 : FVec Ideal S256x384 .fp8e4m3 :=
  k0_pay29 X.x5
abbrev S1 : FVec Ideal S192x384 .bf16 :=
  k0_pay31 X.ks0 X.vs0 X.x4 X.x5
abbrev S2 : FVec Ideal S192x384 .bf16 :=
  k0_pay35 X.ks1 X.vs1 (k0_pay30 X.ks0 X.vs0 X.x4 X.x5) (k0_pay32 X.x4) (k0_pay33 X.x5)
abbrev S3 : FVec Ideal S192x384 .bf16 :=
  k0_pay36 X.ks1 X.ks2 X.vs1 X.vs2 (k0_pay25 X.x4) (k0_pay29 X.x5) (k0_pay30 X.ks0 X.vs0 X.x4 X.x5) (k0_pay32
    X.x4) (k0_pay33 X.x5)
abbrev kT : FVec Ideal S192x256 .bf16 :=
  k0_pay37 k0_pay1 X.ks0 X.ks1 X.ks2 X.ks3 X.vs0 X.vs1 X.vs2 X.vs3 (k0_pay26 X.x4)
abbrev qb3 : FVec Ideal S192x448 .bf16 :=
  k0_pay46 (X.wt1 0) (X.wt1 1) (X.wt1 2) (X.wt1 3) (X.wt1 4) (X.wt1 5) (X.wt1 6) (X.qt 3 0) (X.qt 3 1) (X.qt 3
    2) (X.qt 3 3) (X.qt 3 4) (X.qt 3 5) (X.qt 3 6)
abbrev pb3 : FVec Ideal S64x448 .bf16 :=
  k0_pay47 X.k8 pmask (k0_pay44 (X.qt 3 0) (X.qt 3 1) (X.qt 3 2) (X.qt 3 3) (X.qt 3 4) (X.qt 3 5) (X.qt 3 6))
    (k0_pay45 (X.wt1 0) (X.wt1 1) (X.wt1 2) (X.wt1 3) (X.wt1 4) (X.wt1 5) (X.wt1 6))
abbrev dq3 : FVec Ideal S448x192 .bf16 :=
  k0_pay53 X.S3 X.kT (k0_pay49 (X.gt 3 0) (X.gt 3 1) (X.gt 3 2) (X.gt 3 3) (X.gt 3 4) (X.gt 3 5) (X.gt 3 6))
    (k0_pay50 X.v8 (X.gt 3 0) (X.gt 3 1) (X.gt 3 2) (X.gt 3 3) (X.gt 3 4) (X.gt 3 5) (X.gt 3 6)) (k0_pay51
    k0_pay39) (Scalar.ofBits .f32 0x00000000#32)
abbrev G3 : FVec Ideal S192x128 .f32 :=
  k0_pay55 X.qb3 X.pb3 (k0_pay49 (X.gt 3 0) (X.gt 3 1) (X.gt 3 2) (X.gt 3 3) (X.gt 3 4) (X.gt 3 5) (X.gt 3 6))
    (k0_pay50 X.v8 (X.gt 3 0) (X.gt 3 1) (X.gt 3 2) (X.gt 3 3) (X.gt 3 4) (X.gt 3 5) (X.gt 3 6)) (k0_pay51
    k0_pay39) (Scalar.ofBits .f32 0x00000000#32)
abbrev W3 : FVec Ideal S192x384 .f32 :=
  k0_pay56 X.qb3 X.pb3 (k0_pay49 (X.gt 3 0) (X.gt 3 1) (X.gt 3 2) (X.gt 3 3) (X.gt 3 4) (X.gt 3 5) (X.gt 3 6))
    (k0_pay50 X.v8 (X.gt 3 0) (X.gt 3 1) (X.gt 3 2) (X.gt 3 3) (X.gt 3 4) (X.gt 3 5) (X.gt 3 6)) (k0_pay51
    k0_pay39) (Scalar.ofBits .f32 0x00000000#32)
abbrev dv3 : FVec Ideal S1x1x64x384 .bf16 :=
  k0_pay57 X.ks3 X.qb3 X.pb3 (k0_pay49 (X.gt 3 0) (X.gt 3 1) (X.gt 3 2) (X.gt 3 3) (X.gt 3 4) (X.gt 3 5) (X.gt 3
    6)) (k0_pay50 X.v8 (X.gt 3 0) (X.gt 3 1) (X.gt 3 2) (X.gt 3 3) (X.gt 3 4) (X.gt 3 5) (X.gt 3 6)) (k0_pay51
    k0_pay39) (Scalar.ofBits .f32 0x00000000#32)
abbrev qb2 : FVec Ideal S192x448 .bf16 :=
  k0_pay64 (X.wt1 0) (X.wt1 1) (X.wt1 2) (X.wt1 3) (X.wt1 4) (X.wt1 5) (X.wt1 6) (k0_pay58 (X.qt 2 0)) (k0_pay59
    (X.qt 2 1)) (k0_pay60 (X.qt 2 2)) (k0_pay61 (X.qt 2 3)) (X.qt 2 4) (X.qt 2 5) (X.qt 2 6)
abbrev pb2 : FVec Ideal S64x448 .bf16 :=
  k0_pay65 (X.wt1 0) (X.wt1 1) (X.wt1 2) (X.wt1 3) (X.wt1 4) (X.wt1 5) (X.wt1 6) X.k8 pmask (k0_pay58 (X.qt 2
    0)) (k0_pay59 (X.qt 2 1)) (k0_pay60 (X.qt 2 2)) (k0_pay61 (X.qt 2 3)) (X.qt 2 4) (X.qt 2 5) (X.qt 2 6)
abbrev dq2 : FVec Ideal S448x192 .bf16 :=
  k0_pay70 X.v8 X.S2 X.kT k0_pay38 (k0_pay66 (X.gt 2 0)) (k0_pay67 (X.gt 2 1)) (k0_pay68 (X.gt 2 2)) (X.gt 2 3)
    (X.gt 2 4) (X.gt 2 5) (X.gt 2 6)
abbrev Y2 : FVec Ideal S192x128 .f32 :=
  k0_pay73 k0_pay1 X.v8 k0_pay38 X.W3 X.qb2 X.pb2 (k0_pay66 (X.gt 2 0)) (k0_pay67 (X.gt 2 1)) (k0_pay68 (X.gt 2
    2)) (X.gt 2 3) (X.gt 2 4) (X.gt 2 5) (X.gt 2 6)
abbrev W2 : FVec Ideal S192x384 .f32 :=
  k0_pay75 X.v8 k0_pay38 X.qb2 X.pb2 (k0_pay66 (X.gt 2 0)) (k0_pay67 (X.gt 2 1)) (k0_pay68 (X.gt 2 2)) (X.gt 2
    3) (X.gt 2 4) (X.gt 2 5) (X.gt 2 6)
abbrev D1 : FVec Ideal S192x384 .f32 :=
  k0_pay76 X.W3 X.W2
abbrev dv2 : FVec Ideal S1x1x64x384 .bf16 :=
  k0_pay77 X.ks2 (k0_pay74 X.kb X.v8 k0_pay38 X.W3 X.qb2 X.pb2 (k0_pay66 (X.gt 2 0)) (k0_pay67 (X.gt 2 1))
    (k0_pay68 (X.gt 2 2)) (X.gt 2 3) (X.gt 2 4) (X.gt 2 5) (X.gt 2 6))
abbrev dk1 : FVec Ideal S1x1x192x128 .bf16 :=
  k0_pay78 k0_pay1 X.vs2 X.vs3 X.G3 X.Y2
abbrev qb1 : FVec Ideal S192x448 .bf16 :=
  k0_pay96 (X.wt0 0) (X.wt0 1) (X.wt0 2) (X.wt0 3) (X.wt0 4) (X.wt0 5) (X.wt0 6) (k0_pay89 (X.qt 1 0)) (k0_pay90
    (X.qt 1 1)) (k0_pay91 (X.qt 1 2)) (k0_pay92 (X.qt 1 3)) (k0_pay93 (X.qt 1 4)) (X.qt 1 5) (X.qt 1 6)
abbrev pb1 : FVec Ideal S64x448 .bf16 :=
  k0_pay97 (X.wt0 0) (X.wt0 1) (X.wt0 2) (X.wt0 3) (X.wt0 4) (X.wt0 5) (X.wt0 6) X.k8 pmask (k0_pay89 (X.qt 1
    0)) (k0_pay90 (X.qt 1 1)) (k0_pay91 (X.qt 1 2)) (k0_pay92 (X.qt 1 3)) (k0_pay93 (X.qt 1 4)) (X.qt 1 5) (X.qt 1
    6)
abbrev dq1 : FVec Ideal S448x192 .bf16 :=
  k0_pay103 X.v8 X.S1 X.kT k0_pay39 (k0_pay98 (X.gt 1 0)) (k0_pay99 (X.gt 1 1)) (k0_pay100 (X.gt 1 2))
    (k0_pay101 (X.gt 1 3)) (X.gt 1 4) (X.gt 1 5) (X.gt 1 6)
abbrev Y1 : FVec Ideal S192x128 .f32 :=
  k0_pay106 k0_pay1 X.v8 k0_pay39 X.D1 X.qb1 X.pb1 (k0_pay98 (X.gt 1 0)) (k0_pay99 (X.gt 1 1)) (k0_pay100 (X.gt
    1 2)) (k0_pay101 (X.gt 1 3)) (X.gt 1 4) (X.gt 1 5) (X.gt 1 6)
abbrev D0 : FVec Ideal S192x384 .f32 :=
  k0_pay107 X.v8 k0_pay39 X.D1 X.qb1 X.pb1 (k0_pay98 (X.gt 1 0)) (k0_pay99 (X.gt 1 1)) (k0_pay100 (X.gt 1 2))
    (k0_pay101 (X.gt 1 3)) (X.gt 1 4) (X.gt 1 5) (X.gt 1 6)
abbrev dv1 : FVec Ideal S1x1x64x384 .bf16 :=
  k0_pay110 (k0_pay108 X.ks1 X.kb X.v8 k0_pay39 X.D1 X.qb1 X.pb1 (k0_pay98 (X.gt 1 0)) (k0_pay99 (X.gt 1 1))
    (k0_pay100 (X.gt 1 2)) (k0_pay101 (X.gt 1 3)) (X.gt 1 4) (X.gt 1 5) (X.gt 1 6)) k0_pay109
abbrev qb0 : FVec Ideal S192x448 .bf16 :=
  k0_pay120 (k0_pay111 (X.qt 0 0) (X.qt 0 1) (X.qt 0 2) (X.qt 0 3) (X.qt 0 4) (X.qt 0 5) (X.qt 0 6)) (k0_pay112
    (X.wt0 0)) (k0_pay113 (X.wt0 1)) (k0_pay114 (X.wt0 2)) (k0_pay115 (X.wt0 3)) (k0_pay116 (X.wt0 4)) (k0_pay117
    (X.wt0 5)) (k0_pay118 (X.wt0 6))
abbrev pb0 : FVec Ideal S64x448 .bf16 :=
  k0_pay121 X.k8 pmask (k0_pay111 (X.qt 0 0) (X.qt 0 1) (X.qt 0 2) (X.qt 0 3) (X.qt 0 4) (X.qt 0 5) (X.qt 0 6))
    (k0_pay112 (X.wt0 0)) (k0_pay113 (X.wt0 1)) (k0_pay114 (X.wt0 2)) (k0_pay115 (X.wt0 3)) (k0_pay116 (X.wt0 4))
    (k0_pay117 (X.wt0 5)) (k0_pay118 (X.wt0 6))
abbrev dq0 : FVec Ideal S448x192 .bf16 :=
  k0_pay125 X.v8 X.kT k0_pay38 (k0_pay122 (X.gt 0 0) (X.gt 0 1) (X.gt 0 2) (X.gt 0 3) (X.gt 0 4) (X.gt 0 5)
    (X.gt 0 6))
abbrev dv0 : FVec Ideal S1x1x64x384 .bf16 :=
  k0_pay128 X.ks0 X.kb X.v8 k0_pay38 X.D0 X.qb0 X.pb0 (k0_pay122 (X.gt 0 0) (X.gt 0 1) (X.gt 0 2) (X.gt 0 3)
    (X.gt 0 4) (X.gt 0 5) (X.gt 0 6)) (k0_pay123 (X.gt 0 0) (X.gt 0 1) (X.gt 0 2) (X.gt 0 3) (X.gt 0 4) (X.gt 0 5)
    (X.gt 0 6))
abbrev dk0 : FVec Ideal S1x1x192x128 .bf16 :=
  k0_pay130 (k0_pay129 k0_pay1 X.vs0 X.vs1 X.v8 k0_pay38 X.Y1 X.D0 X.qb0 X.pb0 (k0_pay122 (X.gt 0 0) (X.gt 0 1)
    (X.gt 0 2) (X.gt 0 3) (X.gt 0 4) (X.gt 0 5) (X.gt 0 6)) (k0_pay123 (X.gt 0 0) (X.gt 0 1) (X.gt 0 2) (X.gt 0 3)
    (X.gt 0 4) (X.gt 0 5) (X.gt 0 6)))

theorem wt0_at' (r : Fin 7) (l : Fin 128) : X.wt0 r (ix2 0 l) = X.blk.ds r (lane 0 l) * if l.val < 64 then X.blk.qs 0 r else X.blk.qs 1 r :=
  wt0_at X.blk (X.w r) _ _ r (X.w_at r) (X.qs0_at r) (X.qs1_at r) l
theorem wt1_at' (r : Fin 7) (l : Fin 128) : X.wt1 r (ix2 0 l) = X.blk.ds r (lane 1 l) * if l.val < 64 then X.blk.qs 2 r else X.blk.qs 3 r :=
  wt1_at X.blk (X.w r) _ _ r (X.w_at r) (X.qs2_at r) (X.qs3_at r) l
theorem k8_at' (s : Fin 256) (d : Fin 192) : X.k8 (ix2 s d) = X.blk.k d s := k8_at X.blk X.x4 (fun _ _ => rfl) s d
theorem kb_at' (s : Fin 256) (d : Fin 192) : X.kb (ix2 s d) = X.blk.k d s := kb_at X.blk X.x4 (fun _ _ => rfl) s d
theorem v8_at (s : Fin 256) (e : Fin 384) : X.v8 (ix2 s e) = X.blk.v s e := v_at X.blk X.x5 (fun _ _ => rfl) s e
theorem S1_at' (d : Fin 192) (e : Fin 384) : X.S1 (ix2 d e) = X.blk.S 1 d e := by
  rw [S1, ks0_at, vs0_at]; exact S1_at X.blk X.x4 X.x5 (fun _ _ => rfl) (fun _ _ => rfl) d e
theorem S2_at' (d : Fin 192) (e : Fin 384) : X.S2 (ix2 d e) = X.blk.S 2 d e := by
  rw [S2, ks0_at, vs0_at, ks1_at, vs1_at]; exact S2_at X.blk X.x4 X.x5 (fun _ _ => rfl) (fun _ _ => rfl) d e
theorem S3_at' (d : Fin 192) (e : Fin 384) : X.S3 (ix2 d e) = X.blk.S 3 d e := by
  rw [S3, ks0_at, vs0_at, ks1_at, vs1_at, ks2_at, vs2_at]; exact S3_at X.blk X.x4 X.x5 (fun _ _ => rfl) (fun _ _ => rfl) d e
theorem kT_at' (d : Fin 192) (s : Fin 256) : X.kT (ix2 d s) = X.blk.kts d s := by
  rw [kT, ks0_at, vs0_at, ks1_at, vs1_at, ks2_at, vs2_at, ks3_at, vs3_at]; exact kT_at X.blk X.x4 (fun _ _ => rfl) d s
theorem qb3_at' (d : Fin 192) (c : Fin 448) : X.qb3 (ix2 d c) = X.blk.qb 3 d c := qb3_at X.blk X.wt1 (X.qt 3) (X.qt_at 3) X.wt1_at' d c
theorem qb2_at' (d : Fin 192) (c : Fin 448) : X.qb2 (ix2 d c) = X.blk.qb 2 d c := qb2_at X.blk X.wt1 (X.qt 2) (X.qt_at 2) X.wt1_at' d c
theorem qb1_at' (d : Fin 192) (c : Fin 448) : X.qb1 (ix2 d c) = X.blk.qb 1 d c := qb1_at X.blk X.wt0 (X.qt 1) (X.qt_at 1) X.wt0_at' d c
theorem qb0_at' (d : Fin 192) (c : Fin 448) : X.qb0 (ix2 d c) = X.blk.qb 0 d c := qb0_at X.blk X.wt0 (X.qt 0) (X.qt_at 0) X.wt0_at' d c
theorem pb3_at' (j : Fin 64) (c : Fin 448) : X.pb3 (ix2 j c) = X.blk.pb 3 j c :=
  pb3'_at X.blk X.wt1 (X.qt 3) X.k8 (X.qt_at 3) X.k8_at' X.wt1_at' j c
theorem pb2_at' (j : Fin 64) (c : Fin 448) : X.pb2 (ix2 j c) = X.blk.pb 2 j c :=
  pb2_at X.blk X.wt1 (X.qt 2) X.k8 (X.qt_at 2) X.k8_at' X.wt1_at' j c
theorem pb1_at' (j : Fin 64) (c : Fin 448) : X.pb1 (ix2 j c) = X.blk.pb 1 j c :=
  pb1_at X.blk X.wt0 (X.qt 1) X.k8 (X.qt_at 1) X.k8_at' X.wt0_at' j c
theorem pb0_at' (j : Fin 64) (c : Fin 448) : X.pb0 (ix2 j c) = X.blk.pb 0 j c :=
  pb0_at X.blk X.wt0 (X.qt 0) X.k8 (X.qt_at 0) X.k8_at' X.wt0_at' j c

theorem hda3 : IsDa X.blk 3 (k0_pay52 (k0_pay49 (X.gt 3 0) (X.gt 3 1) (X.gt 3 2) (X.gt 3 3) (X.gt 3 4) (X.gt 3 5) (X.gt 3 6)) (k0_pay50 X.v8 (X.gt 3 0) (X.gt 3 1) (X.gt 3 2) (X.gt 3 3) (X.gt 3 4) (X.gt 3 5) (X.gt 3 6))
    (k0_pay51 k0_pay39) (Scalar.ofBits .f32 0x00000000#32)) :=
  da3_at X.blk (X.gt 3) X.v8 (X.gt_at 3) X.v8_at
theorem hda2 : IsDa X.blk 2 (k0_pay69 X.v8 k0_pay38 (k0_pay66 (X.gt 2 0)) (k0_pay67 (X.gt 2 1)) (k0_pay68 (X.gt 2 2)) (X.gt 2 3) (X.gt 2 4) (X.gt 2 5) (X.gt 2 6)) :=
  da2_at X.blk (X.gt 2) X.v8 (X.gt_at 2) X.v8_at
theorem hda1 : IsDa X.blk 1 (k0_pay102 X.v8 k0_pay39 (k0_pay98 (X.gt 1 0)) (k0_pay99 (X.gt 1 1)) (k0_pay100 (X.gt 1 2)) (k0_pay101 (X.gt 1 3)) (X.gt 1 4) (X.gt 1 5) (X.gt 1 6)) :=
  da1_at X.blk (X.gt 1) X.v8 (X.gt_at 1) X.v8_at
theorem hda0 : IsDa X.blk 0 (concatenate S448x512 1 [⟨S448x384, k0_pay123 (X.gt 0 0) (X.gt 0 1) (X.gt 0 2) (X.gt 0 3) (X.gt 0 4) (X.gt 0 5) (X.gt 0 6)⟩,
    ⟨S448x128, k0_pay124 X.v8 k0_pay38 (k0_pay122 (X.gt 0 0) (X.gt 0 1) (X.gt 0 2) (X.gt 0 3) (X.gt 0 4) (X.gt 0 5) (X.gt 0 6))⟩] concatenates_S448x384_S448x128_S448x512_d1) :=
  da0_at X.blk (X.gt 0) X.v8 (X.gt_at 0) X.v8_at

theorem dq3_at' (c : Fin 448) (d : Fin 192) : X.dq3 (ix2 c d) = X.blk.dqk 3 c d := dq3_at X.blk X.kT X.S3 _ _ _ _ X.hda3 X.S3_at' X.kT_at' c d
theorem dq2_at' (c : Fin 448) (d : Fin 192) : X.dq2 (ix2 c d) = X.blk.dqk 2 c d := dq2_at X.blk X.v8 X.kT X.S2 _ _ _ _ _ _ _ _ X.hda2 X.S2_at' X.kT_at' c d
theorem dq1_at' (c : Fin 448) (d : Fin 192) : X.dq1 (ix2 c d) = X.blk.dqk 1 c d := dq1_at X.blk X.v8 X.kT X.S1 _ _ _ _ _ _ _ _ X.hda1 X.S1_at' X.kT_at' c d
theorem dq0_at' (c : Fin 448) (d : Fin 192) : X.dq0 (ix2 c d) = X.blk.dqk 0 c d := dq0_at X.blk X.v8 X.kT _ _ _ X.hda0 X.kT_at' c d

theorem W3_at' (d : Fin 192) (e : Fin 384) : X.W3 (ix2 d e) = X.blk.D 2 d e := by
  rw [Blk.D_two]; exact W3_at X.blk X.qb3 X.pb3 _ _ _ _ X.hda3 X.qb3_at' d e
theorem W2_at' (d : Fin 192) (e : Fin 384) : X.W2 (ix2 d e) = X.blk.W 2 d e := W2_at X.blk X.v8 X.qb2 X.pb2 _ _ _ _ _ _ _ _ X.hda2 X.qb2_at' d e
theorem D1_at' (d : Fin 192) (e : Fin 384) : X.D1 (ix2 d e) = X.blk.D 1 d e := by
  rw [Blk.D_one, ← Blk.D_two, ← W3_at', ← W2_at']; rfl
theorem D0_at' (d : Fin 192) (e : Fin 384) : X.D0 (ix2 d e) = X.blk.D 0 d e := D0_at X.blk X.v8 X.D1 X.qb1 X.pb1 _ _ _ _ _ _ _ _ X.hda1 X.qb1_at' X.D1_at' d e
theorem G3_at' (d : Fin 192) (l : Fin 128) : X.G3 (ix2 d l) = X.blk.G 3 d l := G3_at X.blk X.qb3 X.pb3 _ _ _ _ X.hda3 X.qb3_at' d l
theorem Y2_at' (d : Fin 192) (l : Fin 128) : X.Y2 (ix2 d l) = X.blk.G 2 d l + if l.val < 64 then X.blk.H 2 d (lane 1 l) else 0 :=
  Y2_at X.blk X.v8 X.W3 X.qb2 X.pb2 _ _ _ _ _ _ _ _ X.hda2 X.qb2_at' X.v8_at X.W3_at' d l
theorem Y1_at' (d : Fin 192) (l : Fin 128) : X.Y1 (ix2 d l) = X.blk.G 1 d l + if l.val < 64 then 0 else X.blk.H 1 d (lane 0 l) :=
  Y1_at X.blk X.v8 X.D1 X.qb1 X.pb1 _ _ _ _ _ _ _ _ X.hda1 X.qb1_at' X.v8_at X.D1_at' d l

theorem dv3_at' (j : Fin 64) (e : Fin 384) : X.dv3 (ix4 0 0 j e) = X.blk.dvk 3 j e := by
  rw [dv3, ks3_at]; exact dv3_at X.blk X.qb3 X.pb3 _ _ _ _ X.hda3 X.pb3_at' j e
theorem dv2_at' (j : Fin 64) (e : Fin 384) : X.dv2 (ix4 0 0 j e) = X.blk.dvk 2 j e := by
  rw [dv2, ks2_at]; exact dvp2_at X.blk X.v8 X.kb X.W3 X.qb2 X.pb2 _ _ _ _ _ _ _ _ X.hda2 X.pb2_at' X.kb_at' X.W3_at' j e
theorem dv1_at' (j : Fin 64) (e : Fin 384) : X.dv1 (ix4 0 0 j e) = X.blk.dvk 1 j e := by
  rw [dv1, ks1_at]; exact dvp1_at X.blk X.v8 X.kb X.D1 X.qb1 X.pb1 _ _ _ _ _ _ _ _ X.hda1 X.pb1_at' X.kb_at' X.D1_at' j e
theorem dv0_at' (j : Fin 64) (e : Fin 384) : X.dv0 (ix4 0 0 j e) = X.blk.dvk 0 j e := by
  rw [dv0, ks0_at]; exact dv0_at X.blk X.v8 X.kb X.D0 X.qb0 X.pb0 _ _ _ X.hda0 X.pb0_at' X.kb_at' X.D0_at' j e
theorem dk1_at' (d : Fin 192) (l : Fin 128) : X.dk1 (ix4 0 0 d l) = X.blk.dkk 1 2 3 d l := by
  rw [dk1, vs2_at, vs3_at]; exact dk1_at X.blk X.G3 X.Y2 X.G3_at' X.Y2_at' d l
theorem dk0_at' (d : Fin 192) (l : Fin 128) : X.dk0 (ix4 0 0 d l) = X.blk.dkk 0 0 1 d l := by
  rw [dk0, vs0_at, vs1_at]; exact dk0_at X.blk X.v8 X.D0 X.qb0 X.pb0 _ _ _ X.hda0 X.Y1 X.qb0_at' X.v8_at X.D0_at' X.Y1_at' d l
end In
-- ==== Proof.Out.lean ====
module

public import proofs.«01_k».proof.Proof.Arr
public import proofs.«01_k».proof.Proof.Block

/-! What a grid step leaves in its three output blocks. -/

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen

theorem DV_of (B : Blk) (n : Fin 4) (j : Fin 64) (s : Fin 256) (e e' : Fin 384) (hs : s.val = 64 * n.val + j.val)
    (he : e.val = e'.val) : B.dvk n j e' = DV B s e := by
  have h : s = pos n j := Fin.ext hs
  rw [DV, h, chk_pos, tok_pos, Fin.ext he]

theorem DK0_of (B : Blk) (d d' : Fin 192) (l : Fin 128) (s : Fin 256) (hd : d.val = d'.val) (hs : s.val = l.val) :
    B.dkk 0 0 1 d' l = DK B d s := by
  rw [DK, dif_pos (by omega), Fin.ext hd]; exact congrArg _ (Fin.ext hs.symm)
theorem DK1_of (B : Blk) (d d' : Fin 192) (l : Fin 128) (s : Fin 256) (hd : d.val = d'.val) (hs : s.val = 128 + l.val) :
    B.dkk 1 2 3 d' l = DK B d s := by
  rw [DK, dif_neg (by omega), Fin.ext hd]; exact congrArg _ (Fin.ext (by simp only; omega))

theorem DQ_of (B : Blk) (m : Fin 2) (n₀ n₁ : Fin 4) (r r' : Fin 7) (d d' : Fin 192) (l : Fin 128) (s : Fin 256)
    (hn₀ : n₀.val = 2 * m.val) (hn₁ : n₁.val = 2 * m.val + 1) (hr : r.val = r'.val) (hd : d.val = d'.val)
    (hs : s.val = 128 * m.val + l.val) : dqt B m n₀ n₁ r' d' l = DQ B r d s := by
  obtain rfl : r = r' := Fin.ext hr
  obtain rfl : d = d' := Fin.ext hd
  obtain rfl : s = lane m l := Fin.ext hs
  unfold dqt DQ
  congr 1
  split
  · next h =>
    rw [show chk (lane m l) = n₀ from Fin.ext (by simp only [chk, lane]; omega),
      show tok (lane m l) = ⟨l.val, h⟩ from Fin.ext (by simp only [tok, lane]; omega)]
  · next h =>
    rw [show chk (lane m l) = n₁ from Fin.ext (by simp only [chk, lane]; omega),
      show tok (lane m l) = ⟨l.val - 64, by omega⟩ from Fin.ext (by simp only [tok, lane]; omega)]

/-- A tensor whose entries are known, read at an index that lies at a token of the block. -/
theorem DV_piece (B : Blk) (Z : FVec Ideal S1x1x64x384 .f32) (n : Fin 4) (hZ : ∀ j e, Z (ix4 0 0 j e) = B.dvk n j e)
    (x : S1x1x64x384.Idx) (s : Fin 256) (e : Fin 384) (hs : s.val = 64 * n.val + (x 2).val) (he : e.val = (x 3).val) :
    Z x = DV B s e := by
  idx_vars x
  obtain rfl : x0 = (0 : Fin 1) := Subsingleton.elim (α := Fin 1) _ _
  obtain rfl : x1 = (0 : Fin 1) := Subsingleton.elim (α := Fin 1) _ _
  exact (hZ _ _).trans (DV_of B n _ _ _ _ hs he)

theorem DK_piece0 (B : Blk) (Z : FVec Ideal S1x1x192x128 .f32) (hZ : ∀ d l, Z (ix4 0 0 d l) = B.dkk 0 0 1 d l)
    (x : S1x1x192x128.Idx) (d : Fin 192) (s : Fin 256) (hd : d.val = (x 2).val) (hs : s.val = (x 3).val) : Z x = DK B d s := by
  idx_vars x
  obtain rfl : x0 = (0 : Fin 1) := Subsingleton.elim (α := Fin 1) _ _
  obtain rfl : x1 = (0 : Fin 1) := Subsingleton.elim (α := Fin 1) _ _
  exact (hZ _ _).trans (DK0_of B _ _ _ _ hd hs)
theorem DK_piece1 (B : Blk) (Z : FVec Ideal S1x1x192x128 .f32) (hZ : ∀ d l, Z (ix4 0 0 d l) = B.dkk 1 2 3 d l)
    (x : S1x1x192x128.Idx) (d : Fin 192) (s : Fin 256) (hd : d.val = (x 2).val) (hs : s.val = 128 + (x 3).val) : Z x = DK B d s := by
  idx_vars x
  obtain rfl : x0 = (0 : Fin 1) := Subsingleton.elim (α := Fin 1) _ _
  obtain rfl : x1 = (0 : Fin 1) := Subsingleton.elim (α := Fin 1) _ _
  exact (hZ _ _).trans (DK1_of B _ _ _ _ hd hs)

theorem DQ_piece (B : Blk) (Z : FVec Ideal S1x1x192x128 .f32) (m : Fin 2) (n₀ n₁ : Fin 4) (r r' : Fin 7)
    (hZ : ∀ d l, Z (ix4 0 0 d l) = dqt B m n₀ n₁ r d l) (x : S1x1x192x128.Idx) (d : Fin 192) (s : Fin 256)
    (hn₀ : n₀.val = 2 * m.val) (hn₁ : n₁.val = 2 * m.val + 1) (hr : r'.val = r.val) (hd : d.val = (x 2).val)
    (hs : s.val = 128 * m.val + (x 3).val) : Z x = DQ B r' d s := by
  idx_vars x
  obtain rfl : x0 = (0 : Fin 1) := Subsingleton.elim (α := Fin 1) _ _
  obtain rfl : x1 = (0 : Fin 1) := Subsingleton.elim (α := Fin 1) _ _
  exact (hZ _ _).trans (DQ_of B m n₀ n₁ _ _ _ _ _ _ hn₀ hn₁ hr hd hs)

section
variable (c : Dev nD) (X : In)
  (arg2 : Memref sig .tc .smem S6x4x14 .f32) (harg2 : arg2.IsWhole) (arg3 : Memref sig .tc .smem S4x2x6 .f32) (harg3 :
  arg3.IsWhole) (arg4 : Memref sig .tc .smem S4x2x6 .f32) (harg4 : arg4.IsWhole) (arg5 : Memref sig .tc .vmem
  S1x7x192x256 .fp8e4m3) (harg5 : arg5.IsWhole) (arg6 : Memref sig .tc .vmem S1x1x192x256 .fp8e4m3) (harg6 :
  arg6.IsWhole) (arg7 : Memref sig .tc .vmem S1x1x256x384 .fp8e4m3) (harg7 : arg7.IsWhole) (arg8 : Memref sig .tc
  .vmem S1x7x256x384 .fp8e5m2) (harg8 : arg8.IsWhole) (arg9 : Memref sig .tc .vmem S1x14x256 .f32) (harg9 :
  arg9.IsWhole) (arg10 : Memref sig .tc .vmem S1x7x192x256 .bf16) (harg10 : arg10.IsWhole) (arg11 : Memref sig .tc
  .vmem S1x1x192x256 .bf16) (harg11 : arg11.IsWhole) (arg12 : Memref sig .tc .vmem S1x1x256x384 .bf16) (harg12 :
  arg12.IsWhole)

set_option maxHeartbeats 4000000 in
/-- The third output block of a step is the gradient of the values of its block. -/
theorem out10 (y : S1x1x256x384.Idx) :
    out0_A_10 c X.i arg2 harg2 arg3 harg3 arg4 harg4 arg5 harg5 arg6 harg6 arg7 harg7 arg8 harg8 arg9 harg9 arg10 harg10 arg11 harg11 arg12 harg12 X.x0 X.x1 X.x2 X.x3 X.x4 X.x5 X.x6 X.x7 y = DV X.blk (y 2) (y 3) := by
  unfold out0_A_10
  frame_out
  canon_tiles x h
  · exact DV_piece X.blk X.dv0 0 X.dv0_at' x _ _ (by rw [h2]; simp) h3
  · exact DV_piece X.blk X.dv1 1 X.dv1_at' x _ _ (by rw [h2]; simp) h3
  · exact DV_piece X.blk X.dv2 2 X.dv2_at' x _ _ (by rw [h2]; simp) h3
  · exact DV_piece X.blk X.dv3 3 X.dv3_at' x _ _ (by rw [h2]; simp) h3

set_option maxHeartbeats 4000000 in
/-- The second output block of a step is the gradient of the keys of its block. -/
theorem out9 (y : S1x1x192x256.Idx) :
    out0_A_9 c X.i arg2 harg2 arg3 harg3 arg4 harg4 arg5 harg5 arg6 harg6 arg7 harg7 arg8 harg8 arg9 harg9 arg10 harg10 arg11 harg11 arg12 harg12 X.x0 X.x1 X.x2 X.x3 X.x4 X.x5 X.x6 X.x7 y = DK X.blk (y 2) (y 3) := by
  unfold out0_A_9
  frame_out
  canon_tiles x h
  · exact DK_piece0 X.blk X.dk0 X.dk0_at' x _ _ h2 h3
  · exact DK_piece1 X.blk X.dk1 X.dk1_at' x _ _ h2 h3

set_option maxHeartbeats 4000000 in
/-- The first output block of a step is the gradient of the queries of its block, head by head. -/
theorem out8 (y : S1x7x192x256.Idx) :
    out0_A_8 c X.i arg2 harg2 arg3 harg3 arg4 harg4 arg5 harg5 arg6 harg6 arg7 harg7 arg8 harg8 arg9 harg9 arg10 harg10 arg11 harg11 arg12 harg12 X.x0 X.x1 X.x2 X.x3 X.x4 X.x5 X.x6 X.x7 y = DQ X.blk (y 1) (y 2) (y 3) := by
  unfold out0_A_8
  frame_out
  canon_tiles x h
  · exact DQ_piece X.blk (k0_pay139 (k0_pay8 (X.w 6)) X.dq1 X.dq0) 0 0 1 6 _
      (fun d l => dqt0_6 X.blk (X.w 6) X.dq1 X.dq0 d l X.dq1_at' X.dq0_at' (X.w_at 6))
      x _ _ rfl rfl (by first | exact h1 | simpa using h1) h2 (by first | exact h3 | simpa using h3)
  · exact DQ_piece X.blk (k0_pay138 (k0_pay7 (X.w 5)) X.dq1 X.dq0) 0 0 1 5 _
      (fun d l => dqt0_5 X.blk (X.w 5) X.dq1 X.dq0 d l X.dq1_at' X.dq0_at' (X.w_at 5))
      x _ _ rfl rfl (by first | exact h1 | simpa using h1) h2 (by first | exact h3 | simpa using h3)
  · exact DQ_piece X.blk (k0_pay137 (k0_pay6 (X.w 4)) X.dq1 X.dq0) 0 0 1 4 _
      (fun d l => dqt0_4 X.blk (X.w 4) X.dq1 X.dq0 d l X.dq1_at' X.dq0_at' (X.w_at 4))
      x _ _ rfl rfl (by first | exact h1 | simpa using h1) h2 (by first | exact h3 | simpa using h3)
  · exact DQ_piece X.blk (k0_pay136 (k0_pay134 X.dq1 X.dq0) (k0_pay135 (k0_pay5 (X.w 3)))) 0 0 1 3 _
      (fun d l => dqt0_3 X.blk (X.w 3) X.dq1 X.dq0 d l X.dq1_at' X.dq0_at' (X.w_at 3))
      x _ _ rfl rfl (by first | exact h1 | simpa using h1) h2 (by first | exact h3 | simpa using h3)
  · exact DQ_piece X.blk (k0_pay133 (k0_pay4 (X.w 2)) X.dq1 X.dq0) 0 0 1 2 _
      (fun d l => dqt0_2 X.blk (X.w 2) X.dq1 X.dq0 d l X.dq1_at' X.dq0_at' (X.w_at 2))
      x _ _ rfl rfl (by first | exact h1 | simpa using h1) h2 (by first | exact h3 | simpa using h3)
  · exact DQ_piece X.blk (k0_pay132 (k0_pay3 (X.w 1)) X.dq1 X.dq0) 0 0 1 1 _
      (fun d l => dqt0_1 X.blk (X.w 1) X.dq1 X.dq0 d l X.dq1_at' X.dq0_at' (X.w_at 1))
      x _ _ rfl rfl (by first | exact h1 | simpa using h1) h2 (by first | exact h3 | simpa using h3)
  · exact DQ_piece X.blk (k0_pay131 (k0_pay2 (X.w 0)) X.dq1 X.dq0) 0 0 1 0 _
      (fun d l => dqt0_0 X.blk (X.w 0) X.dq1 X.dq0 d l X.dq1_at' X.dq0_at' (X.w_at 0))
      x _ _ rfl rfl (by first | exact h1 | simpa using h1) h2 (by first | exact h3 | simpa using h3)
  · exact DQ_piece X.blk (k0_pay88 (k0_pay8 (X.w 6)) X.dq3 X.dq2) 1 2 3 6 _
      (fun d l => dqt1_6 X.blk (X.w 6) X.dq3 X.dq2 d l X.dq3_at' X.dq2_at' (X.w_at 6))
      x _ _ rfl rfl (by first | exact h1 | simpa using h1) h2 (by first | exact h3 | simpa using h3)
  · exact DQ_piece X.blk (k0_pay87 (k0_pay85 X.dq3 X.dq2) (k0_pay86 (k0_pay7 (X.w 5)))) 1 2 3 5 _
      (fun d l => dqt1_5 X.blk (X.w 5) X.dq3 X.dq2 d l X.dq3_at' X.dq2_at' (X.w_at 5))
      x _ _ rfl rfl (by first | exact h1 | simpa using h1) h2 (by first | exact h3 | simpa using h3)
  · exact DQ_piece X.blk (k0_pay84 (k0_pay6 (X.w 4)) X.dq3 X.dq2) 1 2 3 4 _
      (fun d l => dqt1_4 X.blk (X.w 4) X.dq3 X.dq2 d l X.dq3_at' X.dq2_at' (X.w_at 4))
      x _ _ rfl rfl (by first | exact h1 | simpa using h1) h2 (by first | exact h3 | simpa using h3)
  · exact DQ_piece X.blk (k0_pay83 (k0_pay5 (X.w 3)) X.dq3 X.dq2) 1 2 3 3 _
      (fun d l => dqt1_3 X.blk (X.w 3) X.dq3 X.dq2 d l X.dq3_at' X.dq2_at' (X.w_at 3))
      x _ _ rfl rfl (by first | exact h1 | simpa using h1) h2 (by first | exact h3 | simpa using h3)
  · exact DQ_piece X.blk (k0_pay82 (k0_pay4 (X.w 2)) X.dq3 X.dq2) 1 2 3 2 _
      (fun d l => dqt1_2 X.blk (X.w 2) X.dq3 X.dq2 d l X.dq3_at' X.dq2_at' (X.w_at 2))
      x _ _ rfl rfl (by first | exact h1 | simpa using h1) h2 (by first | exact h3 | simpa using h3)
  · exact DQ_piece X.blk (k0_pay81 (k0_pay80 (k0_pay3 (X.w 1)) X.dq3 X.dq2)) 1 2 3 1 _
      (fun d l => dqt1_1 X.blk (X.w 1) X.dq3 X.dq2 d l X.dq3_at' X.dq2_at' (X.w_at 1))
      x _ _ rfl rfl (by first | exact h1 | simpa using h1) h2 (by first | exact h3 | simpa using h3)
  · exact DQ_piece X.blk (k0_pay79 (k0_pay2 (X.w 0)) X.dq3 X.dq2) 1 2 3 0 _
      (fun d l => dqt1_0 X.blk (X.w 0) X.dq3 X.dq2 d l X.dq3_at' X.dq2_at' (X.w_at 0))
      x _ _ rfl rfl (by first | exact h1 | simpa using h1) h2 (by first | exact h3 | simpa using h3)
end

section
variable (m : (ℓ : Loc nD τ sig) → Buf (Elt Ideal) ℓ) (c : Dev nD) (t : Fin cfg0.N)

/-- The inputs of step `t`. -/
abbrev stp : In := ⟨grid0.coords t, iblk m c 0 t, iblk m c 1 t, iblk m c 2 t, iblk m c 3 t, iblk m c 4 t, iblk m c 5 t,
  iblk m c 6 t, iblk m c 7 t⟩

/-- What step `t` leaves in the block of the queries' gradient. -/
theorem after8 (y : S1x7x192x256.Idx) : (dats m 0 c).after 8 t y = DQ (stp m c t).blk (y 1) (y 2) (y 3) := by
  rw [after0_8]; unfold outsAt0 stp
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  exact out8 c ⟨grid0.coords t, x0, x1, x2, x3, x4, x5, x6, x7⟩ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) y
/-- What step `t` leaves in the block of the keys' gradient. -/
theorem after9 (y : S1x1x192x256.Idx) : (dats m 0 c).after 9 t y = DK (stp m c t).blk (y 2) (y 3) := by
  rw [after0_9]; unfold outsAt0 stp
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  exact out9 c ⟨grid0.coords t, x0, x1, x2, x3, x4, x5, x6, x7⟩ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) y
/-- What step `t` leaves in the block of the values' gradient. -/
theorem after10 (y : S1x1x256x384.Idx) : (dats m 0 c).after 10 t y = DV (stp m c t).blk (y 2) (y 3) := by
  rw [after0_10]; unfold outsAt0 stp
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  exact out10 c ⟨grid0.coords t, x0, x1, x2, x3, x4, x5, x6, x7⟩ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) y
end
end Cert.KernelIdeal.Val
-- ==== Proof.Arrays.lean ====
module
public import proofs.«01_k».proof.Proof.Out

/-!
The result arrays of the kernel: the input blocks of each grid step are parts of the arguments, and
the output blocks tile the three arrays.
-/
@[expose] public section
set_option maxRecDepth 16384
noncomputable section
namespace Cert.KernelIdeal.Val
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- The kernel's arguments as plain functions. -/
def arr : Arr where
  q b s h d := (m ((c : Thread nD τ).loc main_arg0) : Vec Ideal S6x256x14x192 .fp8e4m3) (ix4 b s h d)
  qs b n h := (m ((c : Thread nD τ).loc main_arg1) : Vec Ideal S6x4x14 .f32) (ix3 b n h)
  k b s g d := (m ((c : Thread nD τ).loc main_arg2) : Vec Ideal S6x256x2x192 .fp8e4m3) (ix4 b s g d)
  ks b n g := (m ((c : Thread nD τ).loc main_arg3) : Vec Ideal S6x4x2 .f32) (ix3 b n g)
  v b s g e := (m ((c : Thread nD τ).loc main_arg4) : Vec Ideal S6x256x2x384 .fp8e4m3) (ix4 b s g e)
  vs b n g := (m ((c : Thread nD τ).loc main_arg5) : Vec Ideal S6x4x2 .f32) (ix3 b n g)
  g b s h e := (m ((c : Thread nD τ).loc main_arg6) : Vec Ideal S6x256x14x384 .fp8e5m2) (ix4 b s h e)
  ds b s h := (m ((c : Thread nD τ).loc main_arg7) : Vec Ideal S6x256x14 .f32) (ix3 b s h)

theorem idx : ∀ t : Fin cfg0.N,
    win0_0.index t = ![0, 0, 0] ∧ win0_1.index t = ![0, 0, 0] ∧ win0_2.index t = ![0, 0, 0] ∧
    win0_3.index t = ![(grid0.coords t 0).val, (grid0.coords t 1).val, 0, 0] ∧
    win0_4.index t = ![(grid0.coords t 0).val, (grid0.coords t 1).val, 0, 0] ∧
    win0_5.index t = ![(grid0.coords t 0).val, (grid0.coords t 1).val, 0, 0] ∧
    win0_6.index t = ![(grid0.coords t 0).val, (grid0.coords t 1).val, 0, 0] ∧
    win0_7.index t = ![(grid0.coords t 0).val, 0, 0] ∧
    win0_8.index t = ![(grid0.coords t 0).val, (grid0.coords t 1).val, 0, 0] ∧
    win0_9.index t = ![(grid0.coords t 0).val, (grid0.coords t 1).val, 0, 0] ∧
    win0_10.index t = ![(grid0.coords t 0).val, (grid0.coords t 1).val, 0, 0] :=
  (by decide +kernel : ∀ t : Fin grid0.N, _)

/-! What the host leaves in each operand of the kernel's windows. -/
theorem V_main_v0 : V m c main_v0 = transpose S6x14x192x256 [0, 2, 3, 1] (m ((c : Thread nD τ).loc main_arg0)) transposes_S6x256x14x192_S6x14x192x256_0_2_3_1 := by
  unfold V V0
  unfold_abbrev_sides
  simp only [List.flatten_cons, List.flatten_nil, List.append_nil]
  unfold hostOps0
  after_results
  try rfl
theorem V_main_v1 : V m c main_v1 = transpose S6x2x192x256 [0, 2, 3, 1] (m ((c : Thread nD τ).loc main_arg2)) transposes_S6x256x2x192_S6x2x192x256_0_2_3_1 := by
  unfold V V0
  unfold_abbrev_sides
  simp only [List.flatten_cons, List.flatten_nil, List.append_nil]
  unfold hostOps0
  after_results
  try rfl
theorem V_main_v2 : V m c main_v2 = transpose S6x2x256x384 [0, 2, 1, 3] (m ((c : Thread nD τ).loc main_arg4)) transposes_S6x256x2x384_S6x2x256x384_0_2_1_3 := by
  unfold V V0
  unfold_abbrev_sides
  simp only [List.flatten_cons, List.flatten_nil, List.append_nil]
  unfold hostOps0
  after_results
  try rfl
theorem V_main_v3 : V m c main_v3 = transpose S6x14x256x384 [0, 2, 1, 3] (m ((c : Thread nD τ).loc main_arg6)) transposes_S6x256x14x384_S6x14x256x384_0_2_1_3 := by
  unfold V V0
  unfold_abbrev_sides
  simp only [List.flatten_cons, List.flatten_nil, List.append_nil]
  unfold hostOps0
  after_results
  try rfl
theorem V_main_v4 : V m c main_v4 = transpose S6x14x256 [0, 2, 1] (m ((c : Thread nD τ).loc main_arg7)) transposes_S6x256x14_S6x14x256_0_2_1 := by
  unfold V V0
  unfold_abbrev_sides
  simp only [List.flatten_cons, List.flatten_nil, List.append_nil]
  unfold hostOps0
  after_results
  try rfl
theorem V_main_v5 : V m c main_v5 = transpose S4x2x6 [1, 2, 0] (m ((c : Thread nD τ).loc main_arg3)) transposes_S6x4x2_S4x2x6_1_2_0 := by
  unfold V V0
  unfold_abbrev_sides
  simp only [List.flatten_cons, List.flatten_nil, List.append_nil]
  unfold hostOps0
  after_results
  try rfl
theorem V_main_v6 : V m c main_v6 = transpose S4x2x6 [1, 2, 0] (m ((c : Thread nD τ).loc main_arg5)) transposes_S6x4x2_S4x2x6_1_2_0 := by
  unfold V V0
  unfold_abbrev_sides
  simp only [List.flatten_cons, List.flatten_nil, List.append_nil]
  unfold hostOps0
  after_results
  try rfl

variable (t : Fin cfg0.N)

theorem x0_at (b : Fin 6) (n : Fin 4) (h : Fin 14) : (iblk m c 0 t : Vec Ideal S6x4x14 .f32) (ix3 b n h) = (arr m c).qs b n h := by
  unfold arr
  blk_point [iblk, V, idx t]
theorem x1_at (b : Fin 6) (n : Fin 4) (g : Fin 2) : (iblk m c 1 t : Vec Ideal S4x2x6 .f32) (ix3 n g b) = (arr m c).ks b n g := by
  unfold arr iblk
  blk_simp
  rw [V_main_v5]
  pointwise
  blk_ext [idx t, In.b, In.kv, hq]
theorem x2_at (b : Fin 6) (n : Fin 4) (g : Fin 2) : (iblk m c 2 t : Vec Ideal S4x2x6 .f32) (ix3 n g b) = (arr m c).vs b n g := by
  unfold arr iblk
  blk_simp
  rw [V_main_v6]
  pointwise
  blk_ext [idx t, In.b, In.kv, hq]
theorem x3_at (r : Fin 7) (d : Fin 192) (s : Fin 256) : (iblk m c 3 t : Vec Ideal S1x7x192x256 .fp8e4m3) (ix4 0 r d s) = (arr m c).q (stp m c t).b s (hq (stp m c t).kv r) d := by
  unfold arr iblk
  blk_simp
  rw [V_main_v0]
  pointwise
  blk_ext [idx t, In.b, In.kv, hq]
theorem x4_at (d : Fin 192) (s : Fin 256) : (iblk m c 4 t : Vec Ideal S1x1x192x256 .fp8e4m3) (ix4 0 0 d s) = (arr m c).k (stp m c t).b s (stp m c t).kv d := by
  unfold arr iblk
  blk_simp
  rw [V_main_v1]
  pointwise
  blk_ext [idx t, In.b, In.kv, hq]
theorem x5_at (s : Fin 256) (e : Fin 384) : (iblk m c 5 t : Vec Ideal S1x1x256x384 .fp8e4m3) (ix4 0 0 s e) = (arr m c).v (stp m c t).b s (stp m c t).kv e := by
  unfold arr iblk
  blk_simp
  rw [V_main_v2]
  pointwise
  blk_ext [idx t, In.b, In.kv, hq]
theorem x6_at (r : Fin 7) (s : Fin 256) (e : Fin 384) : (iblk m c 6 t : Vec Ideal S1x7x256x384 .fp8e5m2) (ix4 0 r s e) = (arr m c).g (stp m c t).b s (hq (stp m c t).kv r) e := by
  unfold arr iblk
  blk_simp
  rw [V_main_v3]
  pointwise
  blk_ext [idx t, In.b, In.kv, hq]
theorem x7_at (h : Fin 14) (s : Fin 256) : (iblk m c 7 t : Vec Ideal S1x14x256 .f32) (ix3 0 h s) = (arr m c).ds (stp m c t).b s h := by
  unfold arr iblk
  blk_simp
  rw [V_main_v4]
  pointwise
  blk_ext [idx t, In.b, In.kv, hq]

/-- The data of a step is that of its batch row and key/value head. -/
theorem stp_blk : (stp m c t).blk = (arr m c).blk (stp m c t).b (stp m c t).kv := by
  have e : ∀ r, (stp m c t).qh r = hq (stp m c t).kv r := fun r => rfl
  unfold In.blk Arr.blk
  congr 1
  · funext r d s; exact x3_at m c t r d s
  · funext d s; exact x4_at m c t d s
  · funext s e; exact x5_at m c t s e
  · funext r s e; exact x6_at m c t r s e
  · funext n r; exact x0_at m c t _ _ _
  · funext n; exact x1_at m c t _ _ _
  · funext n; exact x2_at m c t _ _ _
  · funext r s; exact x7_at m c t _ _

theorem DQ_hq (A : Arr) (b : Fin 6) (g : Fin 2) (r : Fin 7) (d : Fin 192) (s : Fin 256) :
    DQ (A.blk b (hg (hq g r))) (hr (hq g r)) d s = DQ (A.blk b g) r d s := by rw [hg_hq, hr_hq]

/-- The array of the queries' gradient after the run. -/
theorem arr8 : (dats m 0 c).arrAt 8 (cfgs 0).N
    = fun i : S6x14x192x256.Idx => DQ ((arr m c).blk (i 0) (hg (i 1))) (hr (i 1)) (i 2) (i 3) := by
  refine (dats m 0 c).arrAt_eq_of_covers 8 _ (by decide +kernel) fun t hf y => ?_
  blk_simp
  rw [after8, stp_blk]
  have e0 : (win0_8.blk t).view.emb y 0 = ((stp m c t).b : Fin 6) := Fin.ext (by
    have y0 := (y 0).isLt; have y1 := (y 1).isLt; change (y 0).val < 1 at y0; change (y 1).val < 7 at y1
    blk_simp [idx t, In.b, In.kv, hq] <;> try omega)
  have e1 : (win0_8.blk t).view.emb y 1 = (hq (stp m c t).kv (y 1) : Fin 14) := Fin.ext (by
    have y0 := (y 0).isLt; have y1 := (y 1).isLt; change (y 0).val < 1 at y0; change (y 1).val < 7 at y1
    blk_simp [idx t]
    show _ = 7 * (grid0.coords t 1).val + (y 1).val
    omega)
  have e2 : (win0_8.blk t).view.emb y 2 = (y 2 : Fin 192) := Fin.ext (by
    have y0 := (y 0).isLt; have y1 := (y 1).isLt; change (y 0).val < 1 at y0; change (y 1).val < 7 at y1
    blk_simp [idx t, In.b, In.kv, hq] <;> try omega)
  have e3 : (win0_8.blk t).view.emb y 3 = (y 3 : Fin 256) := Fin.ext (by
    have y0 := (y 0).isLt; have y1 := (y 1).isLt; change (y 0).val < 1 at y0; change (y 1).val < 7 at y1
    blk_simp [idx t, In.b, In.kv, hq] <;> try omega)
  rw [e0, e1, e2, e3]
  exact (DQ_hq _ _ _ _ _ _).symm

/-- The array of the keys' gradient after the run. -/
theorem arr9 : (dats m 0 c).arrAt 9 (cfgs 0).N
    = fun i : S6x2x192x256.Idx => DK ((arr m c).blk (i 0) (i 1)) (i 2) (i 3) := by
  refine (dats m 0 c).arrAt_eq_of_covers 9 _ (by decide +kernel) fun t hf y => ?_
  blk_simp
  rw [after9, stp_blk]
  have e0 : (win0_9.blk t).view.emb y 0 = ((stp m c t).b : Fin 6) := Fin.ext (by
    have y0 := (y 0).isLt; have y1 := (y 1).isLt; change (y 0).val < 1 at y0; change (y 1).val < 1 at y1
    blk_simp [idx t, In.b, In.kv, hq] <;> try omega)
  have e1 : (win0_9.blk t).view.emb y 1 = ((stp m c t).kv : Fin 2) := Fin.ext (by
    have y0 := (y 0).isLt; have y1 := (y 1).isLt; change (y 0).val < 1 at y0; change (y 1).val < 1 at y1
    blk_simp [idx t, In.b, In.kv, hq] <;> try omega)
  have e2 : (win0_9.blk t).view.emb y 2 = (y 2 : Fin 192) := Fin.ext (by
    have y0 := (y 0).isLt; have y1 := (y 1).isLt; change (y 0).val < 1 at y0; change (y 1).val < 1 at y1
    blk_simp [idx t, In.b, In.kv, hq] <;> try omega)
  have e3 : (win0_9.blk t).view.emb y 3 = (y 3 : Fin 256) := Fin.ext (by
    have y0 := (y 0).isLt; have y1 := (y 1).isLt; change (y 0).val < 1 at y0; change (y 1).val < 1 at y1
    blk_simp [idx t, In.b, In.kv, hq] <;> try omega)
  rw [e0, e1, e2, e3]

/-- The array of the values' gradient after the run. -/
theorem arr10 : (dats m 0 c).arrAt 10 (cfgs 0).N
    = fun i : S6x2x256x384.Idx => DV ((arr m c).blk (i 0) (i 1)) (i 2) (i 3) := by
  refine (dats m 0 c).arrAt_eq_of_covers 10 _ (by decide +kernel) fun t hf y => ?_
  blk_simp
  rw [after10, stp_blk]
  have e0 : (win0_10.blk t).view.emb y 0 = ((stp m c t).b : Fin 6) := Fin.ext (by
    have y0 := (y 0).isLt; have y1 := (y 1).isLt; change (y 0).val < 1 at y0; change (y 1).val < 1 at y1
    blk_simp [idx t, In.b, In.kv, hq] <;> try omega)
  have e1 : (win0_10.blk t).view.emb y 1 = ((stp m c t).kv : Fin 2) := Fin.ext (by
    have y0 := (y 0).isLt; have y1 := (y 1).isLt; change (y 0).val < 1 at y0; change (y 1).val < 1 at y1
    blk_simp [idx t, In.b, In.kv, hq] <;> try omega)
  have e2 : (win0_10.blk t).view.emb y 2 = (y 2 : Fin 256) := Fin.ext (by
    have y0 := (y 0).isLt; have y1 := (y 1).isLt; change (y 0).val < 1 at y0; change (y 1).val < 1 at y1
    blk_simp [idx t, In.b, In.kv, hq] <;> try omega)
  have e3 : (win0_10.blk t).view.emb y 3 = (y 3 : Fin 384) := Fin.ext (by
    have y0 := (y 0).isLt; have y1 := (y 1).isLt; change (y 0).val < 1 at y0; change (y 1).val < 1 at y1
    blk_simp [idx t, In.b, In.kv, hq] <;> try omega)
  rw [e0, e1, e2, e3]

end Cert.KernelIdeal.Val
-- ==== Proof.Ker.lean ====
module
public import proofs.«01_k».proof.Proof.Arrays

/-!
The three results of the kernel's program at an index: its arrays, transposed by the host.
-/
@[expose] public section
set_option maxRecDepth 16384
noncomputable section
namespace Cert.KernelIdeal.Val
open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- The buffers after the kernel. -/
abbrev KW : (b : DevRef τ sig) → b.ty.Contents (Elt Ideal) :=
  Pipeline.withArrays (cfgs 0).spec c (V0 m c) fun w => (dats m 0 c).arrAt w (cfgs 0).N

theorem KW8 : KW m c (Proc.devRef .tc main_v7_0) = fun i : S6x14x192x256.Idx => DQ ((arr m c).blk (i 0) (hg (i 1))) (hr (i 1)) (i 2) (i 3) :=
  (Pipeline.withArrays_arr (cfgs 0).spec (by decide) c (V0 m c) (fun w => (dats m 0 c).arrAt w (cfgs 0).N) 8).trans (arr8 m c)
theorem KW9 : KW m c (Proc.devRef .tc main_v7_1) = fun i : S6x2x192x256.Idx => DK ((arr m c).blk (i 0) (i 1)) (i 2) (i 3) :=
  (Pipeline.withArrays_arr (cfgs 0).spec (by decide) c (V0 m c) (fun w => (dats m 0 c).arrAt w (cfgs 0).N) 9).trans (arr9 m c)
theorem KW10 : KW m c (Proc.devRef .tc main_v7_2) = fun i : S6x2x256x384.Idx => DV ((arr m c).blk (i 0) (i 1)) (i 2) (i 3) :=
  (Pipeline.withArrays_arr (cfgs 0).spec (by decide) c (V0 m c) (fun w => (dats m 0 c).arrAt w (cfgs 0).N) 10).trans (arr10 m c)

/-- The kernel's result `dq` at an index. -/
theorem res_dq (b : Fin 6) (p : Fin 256) (h : Fin 14) (d : Fin 192) :
    (Pipeline.afterTail₀ cfgs (dats m) 0 (V0 m) [hostOps1] c main_v8 : Vec Ideal S6x256x14x192 .bf16) (ix4 b p h d)
      = DQ ((arr m c).blk b (hg h)) (hr h) d p := by
  have e : Pipeline.afterTail₀ cfgs (dats m) 0 (V0 m) [hostOps1] c main_v8 = StableHlo.after [hostOps1].flatten (KW m c) (Proc.devRef .tc main_v8) := rfl
  rw [e]
  simp only [List.flatten_cons, List.flatten_nil, List.append_nil]
  unfold hostOps1
  after_results
  rw [KW8]
  pointwise
/-- The kernel's result `dk` at an index. -/
theorem res_dk (b : Fin 6) (p : Fin 256) (h : Fin 2) (d : Fin 192) :
    (Pipeline.afterTail₀ cfgs (dats m) 0 (V0 m) [hostOps1] c main_v9 : Vec Ideal S6x256x2x192 .bf16) (ix4 b p h d)
      = DK ((arr m c).blk b h) d p := by
  have e : Pipeline.afterTail₀ cfgs (dats m) 0 (V0 m) [hostOps1] c main_v9 = StableHlo.after [hostOps1].flatten (KW m c) (Proc.devRef .tc main_v9) := rfl
  rw [e]
  simp only [List.flatten_cons, List.flatten_nil, List.append_nil]
  unfold hostOps1
  after_results
  rw [KW9]
  pointwise
/-- The kernel's result `dv` at an index. -/
theorem res_dv (b : Fin 6) (p : Fin 256) (h : Fin 2) (d : Fin 384) :
    (Pipeline.afterTail₀ cfgs (dats m) 0 (V0 m) [hostOps1] c main_v10 : Vec Ideal S6x256x2x384 .bf16) (ix4 b p h d)
      = DV ((arr m c).blk b h) p d := by
  have e : Pipeline.afterTail₀ cfgs (dats m) 0 (V0 m) [hostOps1] c main_v10 = StableHlo.after [hostOps1].flatten (KW m c) (Proc.devRef .tc main_v10) := rfl
  rw [e]
  simp only [List.flatten_cons, List.flatten_nil, List.append_nil]
  unfold hostOps1
  after_results
  rw [KW10]
  pointwise
/-- Argument 0 is unchanged by the operations after the kernel. -/
theorem tail_arg0 : Pipeline.afterTail₀ cfgs (dats m) 0 (V0 m) [hostOps1] c main_arg0 = m ((c : Thread nD τ).loc main_arg0) := by
  have e : Pipeline.afterTail₀ cfgs (dats m) 0 (V0 m) [hostOps1] c main_arg0 = StableHlo.after [hostOps1].flatten (KW m c) (Proc.devRef .tc main_arg0) := rfl
  rw [e]
  simp only [List.flatten_cons, List.flatten_nil, List.append_nil]
  unfold hostOps1
  after_results
  refine (Pipeline.withArrays_of_ne (cfgs 0).spec c (V0 m c) (fun w => (dats m 0 c).arrAt w (cfgs 0).N) main_arg0 (by decide)).trans ?_
  unfold V0
  unfold_abbrev_sides
  simp only [List.flatten_cons, List.flatten_nil, List.append_nil]
  unfold hostOps0
  after_results
/-- Argument 2 is unchanged by the operations after the kernel. -/
theorem tail_arg2 : Pipeline.afterTail₀ cfgs (dats m) 0 (V0 m) [hostOps1] c main_arg2 = m ((c : Thread nD τ).loc main_arg2) := by
  have e : Pipeline.afterTail₀ cfgs (dats m) 0 (V0 m) [hostOps1] c main_arg2 = StableHlo.after [hostOps1].flatten (KW m c) (Proc.devRef .tc main_arg2) := rfl
  rw [e]
  simp only [List.flatten_cons, List.flatten_nil, List.append_nil]
  unfold hostOps1
  after_results
  refine (Pipeline.withArrays_of_ne (cfgs 0).spec c (V0 m c) (fun w => (dats m 0 c).arrAt w (cfgs 0).N) main_arg2 (by decide)).trans ?_
  unfold V0
  unfold_abbrev_sides
  simp only [List.flatten_cons, List.flatten_nil, List.append_nil]
  unfold hostOps0
  after_results
/-- Argument 3 is unchanged by the operations after the kernel. -/
theorem tail_arg3 : Pipeline.afterTail₀ cfgs (dats m) 0 (V0 m) [hostOps1] c main_arg3 = m ((c : Thread nD τ).loc main_arg3) := by
  have e : Pipeline.afterTail₀ cfgs (dats m) 0 (V0 m) [hostOps1] c main_arg3 = StableHlo.after [hostOps1].flatten (KW m c) (Proc.devRef .tc main_arg3) := rfl
  rw [e]
  simp only [List.flatten_cons, List.flatten_nil, List.append_nil]
  unfold hostOps1
  after_results
  refine (Pipeline.withArrays_of_ne (cfgs 0).spec c (V0 m c) (fun w => (dats m 0 c).arrAt w (cfgs 0).N) main_arg3 (by decide)).trans ?_
  unfold V0
  unfold_abbrev_sides
  simp only [List.flatten_cons, List.flatten_nil, List.append_nil]
  unfold hostOps0
  after_results
/-- Argument 4 is unchanged by the operations after the kernel. -/
theorem tail_arg4 : Pipeline.afterTail₀ cfgs (dats m) 0 (V0 m) [hostOps1] c main_arg4 = m ((c : Thread nD τ).loc main_arg4) := by
  have e : Pipeline.afterTail₀ cfgs (dats m) 0 (V0 m) [hostOps1] c main_arg4 = StableHlo.after [hostOps1].flatten (KW m c) (Proc.devRef .tc main_arg4) := rfl
  rw [e]
  simp only [List.flatten_cons, List.flatten_nil, List.append_nil]
  unfold hostOps1
  after_results
  refine (Pipeline.withArrays_of_ne (cfgs 0).spec c (V0 m c) (fun w => (dats m 0 c).arrAt w (cfgs 0).N) main_arg4 (by decide)).trans ?_
  unfold V0
  unfold_abbrev_sides
  simp only [List.flatten_cons, List.flatten_nil, List.append_nil]
  unfold hostOps0
  after_results
/-- Argument 5 is unchanged by the operations after the kernel. -/
theorem tail_arg5 : Pipeline.afterTail₀ cfgs (dats m) 0 (V0 m) [hostOps1] c main_arg5 = m ((c : Thread nD τ).loc main_arg5) := by
  have e : Pipeline.afterTail₀ cfgs (dats m) 0 (V0 m) [hostOps1] c main_arg5 = StableHlo.after [hostOps1].flatten (KW m c) (Proc.devRef .tc main_arg5) := rfl
  rw [e]
  simp only [List.flatten_cons, List.flatten_nil, List.append_nil]
  unfold hostOps1
  after_results
  refine (Pipeline.withArrays_of_ne (cfgs 0).spec c (V0 m c) (fun w => (dats m 0 c).arrAt w (cfgs 0).N) main_arg5 (by decide)).trans ?_
  unfold V0
  unfold_abbrev_sides
  simp only [List.flatten_cons, List.flatten_nil, List.append_nil]
  unfold hostOps0
  after_results
/-- Argument 6 is unchanged by the operations after the kernel. -/
theorem tail_arg6 : Pipeline.afterTail₀ cfgs (dats m) 0 (V0 m) [hostOps1] c main_arg6 = m ((c : Thread nD τ).loc main_arg6) := by
  have e : Pipeline.afterTail₀ cfgs (dats m) 0 (V0 m) [hostOps1] c main_arg6 = StableHlo.after [hostOps1].flatten (KW m c) (Proc.devRef .tc main_arg6) := rfl
  rw [e]
  simp only [List.flatten_cons, List.flatten_nil, List.append_nil]
  unfold hostOps1
  after_results
  refine (Pipeline.withArrays_of_ne (cfgs 0).spec c (V0 m c) (fun w => (dats m 0 c).arrAt w (cfgs 0).N) main_arg6 (by decide)).trans ?_
  unfold V0
  unfold_abbrev_sides
  simp only [List.flatten_cons, List.flatten_nil, List.append_nil]
  unfold hostOps0
  after_results
/-- Argument 7 is unchanged by the operations after the kernel. -/
theorem tail_arg7 : Pipeline.afterTail₀ cfgs (dats m) 0 (V0 m) [hostOps1] c main_arg7 = m ((c : Thread nD τ).loc main_arg7) := by
  have e : Pipeline.afterTail₀ cfgs (dats m) 0 (V0 m) [hostOps1] c main_arg7 = StableHlo.after [hostOps1].flatten (KW m c) (Proc.devRef .tc main_arg7) := rfl
  rw [e]
  simp only [List.flatten_cons, List.flatten_nil, List.append_nil]
  unfold hostOps1
  after_results
  refine (Pipeline.withArrays_of_ne (cfgs 0).spec c (V0 m c) (fun w => (dats m 0 c).arrAt w (cfgs 0).N) main_arg7 (by decide)).trans ?_
  unfold V0
  unfold_abbrev_sides
  simp only [List.flatten_cons, List.flatten_nil, List.append_nil]
  unfold hostOps0
  after_results
end Cert.KernelIdeal.Val
-- ==== Proof.RefDefs.lean ====
module
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Lib.Pipeline.ValueKit
public import Idealize.ShloMosaic.Lib.Pointwise
public import Idealize.ShloMosaic.Lib.StableHlo.RunRead

/-!
The reference's intermediate tensors as functions of its arguments, and the reference's host
operations read off as these tensors.
-/
@[expose] public section
set_option maxRecDepth 16384
noncomputable section
namespace Cert.ReferenceIdeal.Val
open Idealize.ShloMosaic Idealize.ShloMosaic.TcCoe Idealize.SL.Sem
open Cert.ReferenceIdeal Cert.ReferenceIdeal.Gen

/-! Codes split into chunks, and codes times scales. -/

def q6 (x : FVec Ideal S6x256x14x192 .bf16) : FVec Ideal S6x4x64x2x7x192 .bf16 := shapeCast _ x shapeCasts_S6x256x14x192_S6x4x64x2x7x192
def k5 (x : FVec Ideal S6x256x2x192 .bf16) : FVec Ideal S6x4x64x2x192 .bf16 := shapeCast _ x shapeCasts_S6x256x2x192_S6x4x64x2x192
def v5 (x : FVec Ideal S6x256x2x384 .bf16) : FVec Ideal S6x4x64x2x384 .bf16 := shapeCast _ x shapeCasts_S6x256x2x384_S6x4x64x2x384
def g6 (x : FVec Ideal S6x256x14x384 .bf16) : FVec Ideal S6x4x64x2x7x384 .bf16 := shapeCast _ x shapeCasts_S6x256x14x384_S6x4x64x2x7x384
def qs4 (x : FVec Ideal S6x4x14 .f32) : FVec Ideal S6x4x2x7 .f32 := shapeCast _ x shapeCasts_S6x4x14_S6x4x2x7
def ds5 (x : FVec Ideal S6x256x14 .f32) : FVec Ideal S6x4x64x2x7 .f32 := shapeCast _ x shapeCasts_S6x256x14_S6x4x64x2x7

/-- Scaled queries. -/
def qb (q : FVec Ideal S6x256x14x192 .bf16) (s : FVec Ideal S6x4x14 .f32) : FVec Ideal S6x4x64x2x7x192 .bf16 :=
  mulf (q6 q) (broadcastInDim S6x4x64x2x7x192 ![0, 1, 2, 3, 4, 5] bcast_S6x4x1x2x7x1_S6x4x64x2x7x192_0_1_2_3_4_5
    (truncf .bf16 (broadcastInDim S6x4x1x2x7x1 ![0, 1, 3, 4] bcast_S6x4x2x7_S6x4x1x2x7x1_0_1_3_4 (qs4 s)) bitsLt_bf16_f32))
/-- Scaled keys. -/
def kb (k : FVec Ideal S6x256x2x192 .bf16) (s : FVec Ideal S6x4x2 .f32) : FVec Ideal S6x4x64x2x192 .bf16 :=
  mulf (k5 k) (broadcastInDim S6x4x64x2x192 ![0, 1, 2, 3, 4] bcast_S6x4x1x2x1_S6x4x64x2x192_0_1_2_3_4
    (truncf .bf16 (broadcastInDim S6x4x1x2x1 ![0, 1, 3] bcast_S6x4x2_S6x4x1x2x1_0_1_3 s) bitsLt_bf16_f32))
/-- Scaled values. -/
def vb (v : FVec Ideal S6x256x2x384 .bf16) (s : FVec Ideal S6x4x2 .f32) : FVec Ideal S6x4x64x2x384 .bf16 :=
  mulf (v5 v) (broadcastInDim S6x4x64x2x384 ![0, 1, 2, 3, 4] bcast_S6x4x1x2x1_S6x4x64x2x384_0_1_2_3_4
    (truncf .bf16 (broadcastInDim S6x4x1x2x1 ![0, 1, 3] bcast_S6x4x2_S6x4x1x2x1_0_1_3 s) bitsLt_bf16_f32))
/-- Scaled output gradients. -/
def gb (g : FVec Ideal S6x256x14x384 .bf16) (s : FVec Ideal S6x256x14 .f32) : FVec Ideal S6x4x64x2x7x384 .bf16 :=
  mulf (g6 g) (broadcastInDim S6x4x64x2x7x384 ![0, 1, 2, 3, 4, 5] bcast_S6x4x64x2x7x1_S6x4x64x2x7x384_0_1_2_3_4_5
    (truncf .bf16 (broadcastInDim S6x4x64x2x7x1 ![0, 1, 2, 3, 4] bcast_S6x4x64x2x7_S6x4x64x2x7x1_0_1_2_3_4 (ds5 s)) bitsLt_bf16_f32))

/-- The state update of each chunk. -/
def u (k : FVec Ideal S6x256x2x192 .bf16) (v : FVec Ideal S6x256x2x384 .bf16) (ks vs : FVec Ideal S6x4x2 .f32) : FVec Ideal S6x4x2x192x384 .f32 :=
  mulf (Host.dotGeneral dot_S6x4x64x2x192_S6x4x64x2x384_S6x4x2x192x384_2_2_4_4_013_013 none (k5 k) (v5 v))
    (broadcastInDim S6x4x2x192x384 ![0, 1, 2, 3, 4] bcast_S6x4x2x1x1_S6x4x2x192x384_0_1_2_3_4
      (broadcastInDim S6x4x2x1x1 ![0, 1, 2] bcast_S6x4x2_S6x4x2x1x1_0_1_2 (mulf ks vs)))
/-- The state-gradient update of each chunk. -/
def w (a : FVec Ideal S6x4x64x2x7x192 .bf16) (b : FVec Ideal S6x4x64x2x7x384 .bf16) : FVec Ideal S6x4x2x192x384 .f32 :=
  Host.dotGeneral dot_S6x4x64x2x7x192_S6x4x64x2x7x384_S6x4x2x192x384_42_42_5_5_013_013 none a b

/-- The sums over the chunks before and at each of the first three. -/
def cumF (x : FVec Ideal S6x3x2x192x384 .f32) : FVec Ideal S6x3x2x192x384 .f32 :=
  Host.reduceWindowAdd ![1, 3, 1, 1, 1] ![1, 1, 1, 1, 1] ![0, 2, 0, 0, 0] ![0, 0, 0, 0, 0] x
    (broadcastInDim S_ ![] bcast_S_S_ (constant S_ .f32 0x00000000#32))
    reduceWindows_S6x3x2x192x384_S6x3x2x192x384_w1s1p0_0_w3s1p2_0_w1s1p0_0_w1s1p0_0_w1s1p0_0 h_S_
/-- The sums over the chunks at and after each of the last three. -/
def cumB (x : FVec Ideal S6x3x2x192x384 .f32) : FVec Ideal S6x3x2x192x384 .f32 :=
  Host.reduceWindowAdd ![1, 3, 1, 1, 1] ![1, 1, 1, 1, 1] ![0, 0, 0, 0, 0] ![0, 2, 0, 0, 0] x
    (broadcastInDim S_ ![] bcast_S_S_ (constant S_ .f32 0x00000000#32))
    reduceWindows_S6x3x2x192x384_S6x3x2x192x384_w1s1p0_0_w3s1p0_2_w1s1p0_0_w1s1p0_0_w1s1p0_0 h_S_
/-- The state before each chunk. -/
def sF (x : FVec Ideal S6x4x2x192x384 .f32) : FVec Ideal S6x4x2x192x384 .bf16 :=
  truncf .bf16 (pad S6x4x2x192x384 ![0, 1, 0, 0, 0] ![0, 0, 0, 0, 0] ![0, 0, 0, 0, 0]
    (cumF (extractStridedSlice S6x3x2x192x384 ![0, 0, 0, 0, 0] x slices_S6x4x2x192x384_S6x3x2x192x384_0_0_0_0_0))
    (sitofp .f32 (constantI S_ 32 0#32)) pads_S6x3x2x192x384_S6x4x2x192x384_000_100_000_000_000 h_S_) bitsLt_bf16_f32
/-- The state gradient after each chunk. -/
def sB (x : FVec Ideal S6x4x2x192x384 .f32) : FVec Ideal S6x4x2x192x384 .bf16 :=
  truncf .bf16 (pad S6x4x2x192x384 ![0, 0, 0, 0, 0] ![0, 1, 0, 0, 0] ![0, 0, 0, 0, 0]
    (cumB (extractStridedSlice S6x3x2x192x384 ![0, 1, 0, 0, 0] x slices_S6x4x2x192x384_S6x3x2x192x384_0_1_0_0_0))
    (sitofp .f32 (constantI S_ 32 0#32)) pads_S6x3x2x192x384_S6x4x2x192x384_000_010_000_000_000 h_S_) bitsLt_bf16_f32

/-- The mask of the pairs of a chunk whose second token is not after the first. -/
def tri : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))
/-- A tensor of pairs, zero off the mask. -/
def masked (x : FVec Ideal S6x4x2x7x64x64 .f32) : FVec Ideal S6x4x2x7x64x64 .bf16 :=
  truncf .bf16 (select (broadcastInDim S6x4x2x7x64x64 ![4, 5] bcast_S64x64_S6x4x2x7x64x64_4_5 tri) x
    (broadcastInDim S6x4x2x7x64x64 ![] bcast_S_S6x4x2x7x64x64 (constant S_ .f32 0x00000000#32))) bitsLt_bf16_f32
/-- The gradient of the scores of each pair, masked. -/
def ab (g : FVec Ideal S6x256x14x384 .bf16) (v : FVec Ideal S6x256x2x384 .bf16) (ds : FVec Ideal S6x256x14 .f32) (vs : FVec Ideal S6x4x2 .f32) :
    FVec Ideal S6x4x2x7x64x64 .bf16 :=
  masked (mulf (transpose S6x4x2x7x64x64 [0, 1, 2, 5, 4, 3]
      (Host.dotGeneral dot_S6x4x64x2x384_S6x4x64x2x7x384_S6x4x2x64x64x7_4_5_2_24_013_013 none (v5 v) (g6 g))
      transposes_S6x4x2x64x64x7_S6x4x2x7x64x64_0_1_2_5_4_3)
    (broadcastInDim S6x4x2x7x64x64 ![0, 1, 2, 3, 4, 5] bcast_S6x4x2x7x64x1_S6x4x2x7x64x64_0_1_2_3_4_5
      (mulf (broadcastInDim S6x4x2x7x64x1 ![0, 1, 2, 3, 4] bcast_S6x4x2x7x64_S6x4x2x7x64x1_0_1_2_3_4
          (transpose S6x4x2x7x64 [0, 1, 3, 4, 2] (ds5 ds) transposes_S6x4x64x2x7_S6x4x2x7x64_0_1_3_4_2))
        (broadcastInDim S6x4x2x7x64x1 ![0, 1, 2, 3, 4, 5] bcast_S6x4x2x1x1x1_S6x4x2x7x64x1_0_1_2_3_4_5
          (broadcastInDim S6x4x2x1x1x1 ![0, 1, 2] bcast_S6x4x2_S6x4x2x1x1x1_0_1_2 vs)))))
/-- The score of each pair, masked. -/
def pb (q : FVec Ideal S6x256x14x192 .bf16) (k : FVec Ideal S6x256x2x192 .bf16) (qs : FVec Ideal S6x4x14 .f32) (ks : FVec Ideal S6x4x2 .f32) :
    FVec Ideal S6x4x2x7x64x64 .bf16 :=
  masked (mulf (transpose S6x4x2x7x64x64 [0, 1, 2, 5, 4, 3]
      (Host.dotGeneral dot_S6x4x64x2x192_S6x4x64x2x7x192_S6x4x2x64x64x7_4_5_2_24_013_013 none (k5 k) (q6 q))
      transposes_S6x4x2x64x64x7_S6x4x2x7x64x64_0_1_2_5_4_3)
    (broadcastInDim S6x4x2x7x64x64 ![0, 1, 2, 3, 4, 5] bcast_S6x4x2x7x1x1_S6x4x2x7x64x64_0_1_2_3_4_5
      (broadcastInDim S6x4x2x7x1x1 ![0, 1, 2, 3] bcast_S6x4x2x7_S6x4x2x7x1x1_0_1_2_3
        (mulf (qs4 qs) (broadcastInDim S6x4x2x7 ![0, 1, 2, 3] bcast_S6x4x2x1_S6x4x2x7_0_1_2_3
          (broadcastInDim S6x4x2x1 ![0, 1, 2] bcast_S6x4x2_S6x4x2x1_0_1_2 ks))))))

/-! The three gradients. -/

def dq (s : FVec Ideal S6x4x2x192x384 .bf16) (g : FVec Ideal S6x4x64x2x7x384 .bf16) (k : FVec Ideal S6x4x64x2x192 .bf16)
    (a : FVec Ideal S6x4x2x7x64x64 .bf16) : FVec Ideal S6x256x14x192 .bf16 :=
  shapeCast _ (truncf .bf16 (mulf (broadcastInDim S6x4x64x2x7x192 ![] bcast_S_S6x4x64x2x7x192 (constant S_ .f32 0x3D93CD3A#32))
    (addf (transpose S6x4x64x2x7x192 [0, 1, 4, 2, 5, 3]
        (Host.dotGeneral dot_S6x4x2x192x384_S6x4x64x2x7x384_S6x4x2x192x64x7_4_5_3_24_012_013 none s g)
        transposes_S6x4x2x192x64x7_S6x4x64x2x7x192_0_1_4_2_5_3)
      (transpose S6x4x64x2x7x192 [0, 1, 5, 2, 4, 3]
        (Host.dotGeneral dot_S6x4x64x2x192_S6x4x2x7x64x64_S6x4x2x192x7x64_2_5_4_34_013_012 none k a)
        transposes_S6x4x2x192x7x64_S6x4x64x2x7x192_0_1_5_2_4_3))) bitsLt_bf16_f32) shapeCasts_S6x4x64x2x7x192_S6x256x14x192
def dk (s : FVec Ideal S6x4x2x192x384 .bf16) (v : FVec Ideal S6x4x64x2x384 .bf16) (q : FVec Ideal S6x4x64x2x7x192 .bf16)
    (a : FVec Ideal S6x4x2x7x64x64 .bf16) : FVec Ideal S6x256x2x192 .bf16 :=
  shapeCast _ (truncf .bf16 (mulf (broadcastInDim S6x4x64x2x192 ![] bcast_S_S6x4x64x2x192 (constant S_ .f32 0x3D93CD3A#32))
    (addf (transpose S6x4x64x2x192 [0, 1, 4, 2, 3]
        (Host.dotGeneral dot_S6x4x2x192x384_S6x4x64x2x384_S6x4x2x192x64_4_4_3_2_012_013 none s v)
        transposes_S6x4x2x192x64_S6x4x64x2x192_0_1_4_2_3)
      (transpose S6x4x64x2x192 [0, 1, 4, 2, 3]
        (Host.dotGeneral dot_S6x4x64x2x7x192_S6x4x2x7x64x64_S6x4x2x192x64_42_34_5_5_013_012 none q a)
        transposes_S6x4x2x192x64_S6x4x64x2x192_0_1_4_2_3))) bitsLt_bf16_f32) shapeCasts_S6x4x64x2x192_S6x256x2x192
def dv (s : FVec Ideal S6x4x2x192x384 .bf16) (k : FVec Ideal S6x4x64x2x192 .bf16) (g : FVec Ideal S6x4x64x2x7x384 .bf16)
    (p : FVec Ideal S6x4x2x7x64x64 .bf16) : FVec Ideal S6x256x2x384 .bf16 :=
  shapeCast _ (truncf .bf16 (mulf (broadcastInDim S6x4x64x2x384 ![] bcast_S_S6x4x64x2x384 (constant S_ .f32 0x3D93CD3A#32))
    (addf (transpose S6x4x64x2x384 [0, 1, 4, 2, 3]
        (Host.dotGeneral dot_S6x4x2x192x384_S6x4x64x2x192_S6x4x2x384x64_3_4_4_2_012_013 none s k)
        transposes_S6x4x2x384x64_S6x4x64x2x384_0_1_4_2_3)
      (transpose S6x4x64x2x384 [0, 1, 4, 2, 3]
        (Host.dotGeneral dot_S6x4x64x2x7x384_S6x4x2x7x64x64_S6x4x2x384x64_42_34_5_5_013_012 none g p)
        transposes_S6x4x2x384x64_S6x4x64x2x384_0_1_4_2_3))) bitsLt_bf16_f32) shapeCasts_S6x4x64x2x384_S6x256x2x384

/-! The host operations after the casts, from any contents `W` of the buffers. -/

/-- The host operations after the casts. -/
abbrev TAIL : List (HloOp τ sig (Elt Ideal)) := [hostOps1, hostOps1_1, hostOps1_2, hostOps1_3, hostOps1_4, hostOps1_5, hostOps1_6,
  hostOps1_7, hostOps1_8, hostOps1_9, hostOps1_10, hostOps1_11, hostOps1_12, hostOps1_13, hostOps1_14].flatten

variable (W : (b : DevRef τ sig) → b.ty.Contents (Elt Ideal))

abbrev cq : FVec Ideal S6x256x14x192 .bf16 := W (Proc.devRef .tc main_v0_0)
abbrev ck : FVec Ideal S6x256x2x192 .bf16 := W (Proc.devRef .tc main_v0_1)
abbrev cv : FVec Ideal S6x256x2x384 .bf16 := W (Proc.devRef .tc main_v0_2)
abbrev cg : FVec Ideal S6x256x14x384 .bf16 := W (Proc.devRef .tc main_v0_3)
abbrev cqs : FVec Ideal S6x4x14 .f32 := W (Proc.devRef .tc main_arg1)
abbrev cks : FVec Ideal S6x4x2 .f32 := W (Proc.devRef .tc main_arg3)
abbrev cvs : FVec Ideal S6x4x2 .f32 := W (Proc.devRef .tc main_arg5)
abbrev cds : FVec Ideal S6x256x14 .f32 := W (Proc.devRef .tc main_arg7)

theorem tail78 : StableHlo.after TAIL W (Proc.devRef .tc main_v78)
    = dq (sF (u (ck W) (cv W) (cks W) (cvs W))) (gb (cg W) (cds W)) (kb (ck W) (cks W)) (ab (cg W) (cv W) (cds W) (cvs W)) := by
  unfold TAIL
  simp only [List.flatten_cons, List.flatten_nil, List.append_nil]
  unfold hostOps1 hostOps1_1 hostOps1_2 hostOps1_3 hostOps1_4 hostOps1_5 hostOps1_6 hostOps1_7 hostOps1_8 hostOps1_9 hostOps1_10 hostOps1_11 hostOps1_12 hostOps1_13 hostOps1_14
  simp only [List.cons_append, List.nil_append]
  after_reads_simp
  rfl
theorem tail82 : StableHlo.after TAIL W (Proc.devRef .tc main_v82)
    = dk (sB (w (qb (cq W) (cqs W)) (gb (cg W) (cds W)))) (vb (cv W) (cvs W)) (qb (cq W) (cqs W)) (ab (cg W) (cv W) (cds W) (cvs W)) := by
  unfold TAIL
  simp only [List.flatten_cons, List.flatten_nil, List.append_nil]
  unfold hostOps1 hostOps1_1 hostOps1_2 hostOps1_3 hostOps1_4 hostOps1_5 hostOps1_6 hostOps1_7 hostOps1_8 hostOps1_9 hostOps1_10 hostOps1_11 hostOps1_12 hostOps1_13 hostOps1_14
  simp only [List.cons_append, List.nil_append]
  after_reads_simp
  rfl
theorem tail86 : StableHlo.after TAIL W (Proc.devRef .tc main_v86)
    = dv (sB (w (qb (cq W) (cqs W)) (gb (cg W) (cds W)))) (kb (ck W) (cks W)) (gb (cg W) (cds W)) (pb (cq W) (ck W) (cqs W) (cks W)) := by
  unfold TAIL
  simp only [List.flatten_cons, List.flatten_nil, List.append_nil]
  unfold hostOps1 hostOps1_1 hostOps1_2 hostOps1_3 hostOps1_4 hostOps1_5 hostOps1_6 hostOps1_7 hostOps1_8 hostOps1_9 hostOps1_10 hostOps1_11 hostOps1_12 hostOps1_13 hostOps1_14
  simp only [List.cons_append, List.nil_append]
  after_reads_simp
  rfl

end Cert.ReferenceIdeal.Val
-- ==== Proof.Cumsum.lean ====
module
public import proofs.«01_k».proof.Proof.RefDefs
public import proofs.«01_k».proof.Proof.Arr

/-!
The running sums over the chunks, entry by entry.
-/
@[expose] public section
set_option maxRecDepth 16384
noncomputable section
namespace Cert.ReferenceIdeal.Val
open Idealize.ShloMosaic Idealize.ShloMosaic.TcCoe Idealize.SL.Sem
open Cert.ReferenceIdeal Cert.ReferenceIdeal.Gen

/-- The window of the running sums: three chunks. -/
abbrev W3 : Shape := ⟨5, ![1, 3, 1, 1, 1]⟩
theorem W3_list : List.finRange W3.numel = [(⟨0, by decide⟩ : Fin W3.numel), ⟨1, by decide⟩, ⟨2, by decide⟩] := by decide +kernel
theorem W3_row : ∀ (n : Fin W3.numel) (a : Fin 5), (W3.rowMajor.symm n a).val = if a = 1 then n.val else 0 := by decide +kernel

/-- One summand of a running sum. -/
theorem cum_term (x : S6x3x2x192x384.Idx → EReal) (L : ℕ) (b : Fin 6) (j : Fin 3) (g : Fin 2) (d : Fin 192) (e : Fin 384) (n : Fin W3.numel)
    {inst : Decidable (∀ a : Fin 5, (![0, L, 0, 0, 0] : Fin 5 → ℕ) a ≤ ((ix5 b j g d e : S6x3x2x192x384.Idx) a).val * (![1, 1, 1, 1, 1] : Fin 5 → ℕ) a + (W3.rowMajor.symm n a).val
        ∧ ((ix5 b j g d e : S6x3x2x192x384.Idx) a).val * (![1, 1, 1, 1, 1] : Fin 5 → ℕ) a + (W3.rowMajor.symm n a).val - (![0, L, 0, 0, 0] : Fin 5 → ℕ) a < S6x3x2x192x384.size a)} :
    (if hin : ∀ a : Fin 5, (![0, L, 0, 0, 0] : Fin 5 → ℕ) a ≤ ((ix5 b j g d e : S6x3x2x192x384.Idx) a).val * (![1, 1, 1, 1, 1] : Fin 5 → ℕ) a + (W3.rowMajor.symm n a).val
        ∧ ((ix5 b j g d e : S6x3x2x192x384.Idx) a).val * (![1, 1, 1, 1, 1] : Fin 5 → ℕ) a + (W3.rowMajor.symm n a).val - (![0, L, 0, 0, 0] : Fin 5 → ℕ) a < S6x3x2x192x384.size a
      then x (fun a => ⟨((ix5 b j g d e : S6x3x2x192x384.Idx) a).val * (![1, 1, 1, 1, 1] : Fin 5 → ℕ) a + (W3.rowMajor.symm n a).val - (![0, L, 0, 0, 0] : Fin 5 → ℕ) a, (hin a).2⟩) else 0)
    = if h : L ≤ j.val + n.val ∧ j.val + n.val - L < 3 then x (ix5 b ⟨j.val + n.val - L, h.2⟩ g d e) else 0 := by
  by_cases h : L ≤ j.val + n.val ∧ j.val + n.val - L < 3
  · have hin : ∀ a : Fin 5, (![0, L, 0, 0, 0] : Fin 5 → ℕ) a ≤ ((ix5 b j g d e : S6x3x2x192x384.Idx) a).val * (![1, 1, 1, 1, 1] : Fin 5 → ℕ) a + (W3.rowMajor.symm n a).val
        ∧ ((ix5 b j g d e : S6x3x2x192x384.Idx) a).val * (![1, 1, 1, 1, 1] : Fin 5 → ℕ) a + (W3.rowMajor.symm n a).val - (![0, L, 0, 0, 0] : Fin 5 → ℕ) a < S6x3x2x192x384.size a := by
      intro a
      rw [W3_row]
      fin_cases a
      · exact ⟨Nat.zero_le _, by have := b.isLt; show b.val * 1 + 0 - 0 < 6; omega⟩
      · exact ⟨by show L ≤ j.val * 1 + n.val; omega, by show j.val * 1 + n.val - L < 3; omega⟩
      · exact ⟨Nat.zero_le _, by have := g.isLt; show g.val * 1 + 0 - 0 < 2; omega⟩
      · exact ⟨Nat.zero_le _, by have := d.isLt; show d.val * 1 + 0 - 0 < 192; omega⟩
      · exact ⟨Nat.zero_le _, by have := e.isLt; show e.val * 1 + 0 - 0 < 384; omega⟩
    rw [dif_pos hin, dif_pos h]
    congr 1
    funext a
    apply Fin.ext
    show _ * _ + (W3.rowMajor.symm n a).val - _ = _
    rw [W3_row]
    fin_cases a
    · show b.val * 1 + 0 - 0 = b.val; omega
    · show j.val * 1 + n.val - L = j.val + n.val - L; omega
    · show g.val * 1 + 0 - 0 = g.val; omega
    · show d.val * 1 + 0 - 0 = d.val; omega
    · show e.val * 1 + 0 - 0 = e.val; omega
  · rw [dif_neg h, dif_neg]
    intro hin
    have h1 := hin 1
    rw [W3_row] at h1
    apply h
    have h2 : L ≤ j.val * 1 + n.val ∧ j.val * 1 + n.val - L < 3 := h1
    omega

variable (b : Fin 6) (g : Fin 2) (d : Fin 192) (e : Fin 384)

theorem zero_const : (broadcastInDim S_ ![] bcast_S_S_ (constant S_ .f32 0x00000000#32) : FVec Ideal S_ .f32) = fun _ => (0 : EReal) := by
  funext i; pointwise

/-- A forward running sum, summand by summand. -/
theorem cumF_eq (x : FVec Ideal S6x3x2x192x384 .f32) (j : Fin 3) : cumF x (ix5 b j g d e) =
    ((0 + if h : 2 ≤ j.val + 0 ∧ j.val + 0 - 2 < 3 then x (ix5 b ⟨j.val + 0 - 2, h.2⟩ g d e) else 0)
      + if h : 2 ≤ j.val + 1 ∧ j.val + 1 - 2 < 3 then x (ix5 b ⟨j.val + 1 - 2, h.2⟩ g d e) else 0)
      + if h : 2 ≤ j.val + 2 ∧ j.val + 2 - 2 < 3 then x (ix5 b ⟨j.val + 2 - 2, h.2⟩ g d e) else 0 := by
  unfold cumF
  rw [zero_const]
  unfold Host.reduceWindowAdd
  rw [Ideal.hostReduceWindowAdd_def]
  unfold Ideal.hostReduceWindowAdd Host.reduceWindow
  show (List.finRange W3.numel).foldl _ _ = _
  rw [W3_list]
  exact congrArg₂ (· + ·) (congrArg₂ (· + ·) (congrArg (0 + ·) (cum_term x 2 b j g d e ⟨0, by decide⟩))
    (cum_term x 2 b j g d e ⟨1, by decide⟩)) (cum_term x 2 b j g d e ⟨2, by decide⟩)
/-- A backward running sum, summand by summand. -/
theorem cumB_eq (x : FVec Ideal S6x3x2x192x384 .f32) (j : Fin 3) : cumB x (ix5 b j g d e) =
    ((0 + if h : 0 ≤ j.val + 0 ∧ j.val + 0 - 0 < 3 then x (ix5 b ⟨j.val + 0 - 0, h.2⟩ g d e) else 0)
      + if h : 0 ≤ j.val + 1 ∧ j.val + 1 - 0 < 3 then x (ix5 b ⟨j.val + 1 - 0, h.2⟩ g d e) else 0)
      + if h : 0 ≤ j.val + 2 ∧ j.val + 2 - 0 < 3 then x (ix5 b ⟨j.val + 2 - 0, h.2⟩ g d e) else 0 := by
  unfold cumB
  rw [zero_const]
  unfold Host.reduceWindowAdd
  rw [Ideal.hostReduceWindowAdd_def]
  unfold Ideal.hostReduceWindowAdd Host.reduceWindow
  show (List.finRange W3.numel).foldl _ _ = _
  rw [W3_list]
  exact congrArg₂ (· + ·) (congrArg₂ (· + ·) (congrArg (0 + ·) (cum_term x 0 b j g d e ⟨0, by decide⟩))
    (cum_term x 0 b j g d e ⟨1, by decide⟩)) (cum_term x 0 b j g d e ⟨2, by decide⟩)

theorem pad_zero : (FloatOps.sitofp FTy.f32 (0#32) : Ideal .f32) = (0 : EReal) := by
  show ((((0#32 : BitVec 32).toInt : ℝ)) : EReal) = 0
  simp

variable (x : FVec Ideal S6x4x2x192x384 .f32)

theorem lo_at (j : Fin 3) : extractStridedSlice S6x3x2x192x384 ![0, 0, 0, 0, 0] x slices_S6x4x2x192x384_S6x3x2x192x384_0_0_0_0_0 (ix5 b j g d e)
    = x (ix5 b ⟨j.val, by omega⟩ g d e) := by
  pointwise
theorem hi_at (j : Fin 3) : extractStridedSlice S6x3x2x192x384 ![0, 1, 0, 0, 0] x slices_S6x4x2x192x384_S6x3x2x192x384_0_1_0_0_0 (ix5 b j g d e)
    = x (ix5 b ⟨1 + j.val, by omega⟩ g d e) := by
  pointwise

/-- The state before chunk `n` is the sum of the updates of the earlier chunks. -/
theorem sF_at (n : Fin 4) (f : Fin 4 → EReal) (hf : ∀ n, x (ix5 b n g d e) = f n) :
    sF x (ix5 b n g d e) = ∑ n' : Fin 4, if n' < n then f n' else 0 := by
  pointwise [sF]
  simp only [cumF_eq, lo_at, hf]
  rw [Fin.sum_univ_four]
  fin_cases n
  all_goals simp
  exact pad_zero
/-- The state gradient after chunk `n` is the sum of the updates of the later chunks. -/
theorem sB_at (n : Fin 4) (f : Fin 4 → EReal) (hf : ∀ n, x (ix5 b n g d e) = f n) :
    sB x (ix5 b n g d e) = ∑ n' : Fin 4, if n < n' then f n' else 0 := by
  pointwise [sB]
  simp only [cumB_eq, hi_at, hf]
  rw [Fin.sum_univ_four]
  fin_cases n
  all_goals simp
  exact pad_zero
end Cert.ReferenceIdeal.Val
-- ==== Proof.Equation.lean ====
module
public import proofs.«01_k».proof.Proof.Arr

/-!
The reference's gradients of one block, in the reference's grouping of the factors, and their
equality with the kernel's. The scales of `k`, `v` and `do` are taken out of sums, which the
extended reals allow for a factor that is at least zero and below infinity.
-/
@[expose] public section
noncomputable section

namespace Blk
variable (B : Blk)

def rqb (n : Fin 4) (t : Fin 64) (r : Fin 7) (d : Fin 192) : EReal := B.q r d (pos n t) * B.qs n r
def rkb (n : Fin 4) (s : Fin 64) (d : Fin 192) : EReal := B.k d (pos n s) * B.ks n
def rvb (n : Fin 4) (s : Fin 64) (e : Fin 384) : EReal := B.v (pos n s) e * B.vs n
def rgb (n : Fin 4) (t : Fin 64) (r : Fin 7) (e : Fin 384) : EReal := B.g r (pos n t) e * B.ds r (pos n t)
/-- The state-gradient update of chunk `n`. -/
def rw (n : Fin 4) (d : Fin 192) (e : Fin 384) : EReal := ∑ r, ∑ t, B.rqb n t r d * B.rgb n t r e
/-- The state gradient after chunk `n`: the updates of the later chunks. -/
def rD (n : Fin 4) (d : Fin 192) (e : Fin 384) : EReal := ∑ n' : Fin 4, if n < n' then B.rw n' d e else 0
/-- The gradient of the score of a pair of tokens of chunk `n`, zero unless `s` is at or before `t`. -/
def rab (n : Fin 4) (r : Fin 7) (t s : Fin 64) : EReal :=
  if s.val ≤ t.val then (∑ e, B.v (pos n s) e * B.g r (pos n t) e) * (B.ds r (pos n t) * B.vs n) else 0
/-- The score of a pair of tokens of chunk `n`, zero unless `s` is at or before `t`. -/
def rpb (n : Fin 4) (r : Fin 7) (t s : Fin 64) : EReal :=
  if s.val ≤ t.val then (∑ d, B.k d (pos n s) * B.q r d (pos n t)) * (B.qs n r * B.ks n) else 0
/-- The reference's gradient of the queries. -/
def rdq (n : Fin 4) (t : Fin 64) (r : Fin 7) (d : Fin 192) : EReal :=
  sm * ((∑ e, B.S n d e * B.rgb n t r e) + ∑ s, B.rkb n s d * B.rab n r t s)
/-- The reference's gradient of the keys. -/
def rdk (n : Fin 4) (s : Fin 64) (d : Fin 192) : EReal :=
  sm * ((∑ e, B.rD n d e * B.rvb n s e) + ∑ r, ∑ t, B.rqb n t r d * B.rab n r t s)
/-- The reference's gradient of the values. -/
def rdv (n : Fin 4) (s : Fin 64) (e : Fin 384) : EReal :=
  sm * ((∑ d, B.rD n d e * B.rkb n s d) + ∑ r, ∑ t, B.rgb n t r e * B.rpb n r t s)
end Blk

/-- A scale: at least zero and below infinity. -/
def IsScale (x : EReal) : Prop := 0 ≤ x ∧ x < ⊤

theorem IsScale.add_mul {x : EReal} (h : IsScale x) (a b : EReal) : (a + b) * x = a * x + b * x := by
  rw [mul_comm, mul_comm a, mul_comm b]
  exact EReal.left_distrib_of_nonneg_of_ne_top h.1 h.2.ne a b
theorem IsScale.sum_mul {x : EReal} (h : IsScale x) {ι : Type} (s : Finset ι) (f : ι → EReal) :
    (∑ i ∈ s, f i) * x = ∑ i ∈ s, f i * x := by
  classical
  induction s using Finset.induction_on with
  | empty => simp
  | insert a s ha ih => rw [Finset.sum_insert ha, Finset.sum_insert ha, h.add_mul, ih]

/-- A sum over the columns is a sum over heads and tokens. -/
theorem sum_col (f : Fin 448 → EReal) : ∑ c, f c = ∑ r, ∑ t, f (col r t) := by
  rw [← Fintype.sum_prod_type' (fun r t => f (col r t))]
  refine (Fintype.sum_bijective (fun p : Fin 7 × Fin 64 => col p.1 p.2) ⟨?_, ?_⟩ _ _ fun p => rfl).symm
  · rintro ⟨r, t⟩ ⟨r', t'⟩ h
    have h1 := congrArg hd h
    have h2 := congrArg tk h
    simp only [hd_col, tk_col] at h1 h2
    rw [h1, h2]
  · intro c
    exact ⟨(hd c, tk c), Fin.ext (by simp only [col, hd, tk]; omega)⟩

/-- The lane of token `s` of chunk `n` in its half. -/
def ln (n : Fin 4) (s : Fin 64) : Fin 128 := ⟨64 * (n.val % 2) + s.val, by omega⟩
theorem lane_ln (n : Fin 4) (s : Fin 64) : lane (half n) (ln n s) = pos n s :=
  Fin.ext (by simp only [lane, half, ln, pos]; omega)
theorem own_ln (n : Fin 4) (t s : Fin 64) : Own n t (ln n s) ↔ s.val ≤ t.val := by
  simp only [Own, ln]; omega
/-- A sum over the lanes of a half that vanishes off the tokens of chunk `n` is a sum over these tokens. -/
theorem sum_lane (n : Fin 4) (t : Fin 64) (f : Fin 128 → EReal) (h : ∀ l, ¬ Own n t l → f l = 0) :
    ∑ l, f l = ∑ s, f (ln n s) := by
  have inj : Function.Injective (ln n) := fun a b hab => Fin.ext (by
    have := congrArg Fin.val hab; simp only [ln] at this; omega)
  refine Eq.trans ?_ (Finset.sum_map Finset.univ ⟨ln n, inj⟩ f)
  refine (Finset.sum_subset (Finset.subset_univ _) fun l _ hl => h l fun ho => hl ?_).symm
  rw [Finset.mem_map]
  refine ⟨⟨l.val - 64 * (n.val % 2), by unfold Own at ho; omega⟩, Finset.mem_univ _, Fin.ext ?_⟩
  unfold Own at ho
  simp only [Function.Embedding.coeFn_mk, ln]; omega

namespace Blk
variable (B : Blk)

/-- The two groupings of the state-gradient updates agree. -/
theorem rw_eq (n : Fin 4) (d : Fin 192) (e : Fin 384) : B.rw n d e = B.W n d e := by
  rw [rw, W, sum_col]
  refine Finset.sum_congr rfl fun r _ => Finset.sum_congr rfl fun t _ => ?_
  simp only [rqb, rgb, qb, gb, qsc, hd_col, tk_col]
  ac_rfl
theorem rD_eq (n : Fin 4) (d : Fin 192) (e : Fin 384) : B.rD n d e = B.D n d e := by
  simp only [rD, D, rw_eq]

theorem ab_ln (n : Fin 4) (r : Fin 7) (t s : Fin 64) :
    B.ab n (col r t) (ln n s) = if s.val ≤ t.val then ∑ e, B.v (pos n s) e * B.g r (pos n t) e else 0 := by
  simp only [ab, own_ln, hd_col, tk_col, gb, lane_ln, mul_comm]
/-- The kernel's masked products, scaled, are the reference's. -/
theorem ab_mul (n : Fin 4) (r : Fin 7) (t s : Fin 64) :
    B.ab n (col r t) (ln n s) * (B.ds r (pos n t) * B.vs n) = B.rab n r t s := by
  rw [ab_ln, rab]; split
  · rfl
  · rw [zero_mul]

/-- The gradient of the queries. -/
theorem dq_eq (n : Fin 4) (t : Fin 64) (r : Fin 7) (d : Fin 192) (h : IsScale (B.ds r (pos n t))) :
    B.dqk n (col r t) d * B.ds r (pos n t) = B.rdq n t r d := by
  have h1 : (∑ e, B.gb n (col r t) e * B.S n d e) * B.ds r (pos n t) = ∑ e, B.S n d e * B.rgb n t r e := by
    rw [h.sum_mul]
    refine Finset.sum_congr rfl fun e _ => ?_
    simp only [gb, rgb, hd_col, tk_col]
    ac_rfl
  have h2 : (∑ l, B.ab n (col r t) l * B.kts d (lane (half n) l)) * B.ds r (pos n t) = ∑ s, B.rkb n s d * B.rab n r t s := by
    rw [sum_lane n t _ fun l hl => by rw [ab, tk_col, if_neg hl, zero_mul], h.sum_mul]
    refine Finset.sum_congr rfl fun s _ => ?_
    rw [← ab_mul, lane_ln, kts, chk_pos, rkb]
    ac_rfl
  rw [dqk, rdq, mul_right_comm, h.add_mul, h1, h2, mul_comm]

/-- The gradient of the values. -/
theorem dv_eq (n : Fin 4) (s : Fin 64) (e : Fin 384) (h : IsScale (B.ks n)) : B.dvk n s e = B.rdv n s e := by
  have h1 : (∑ c, B.pb n s c * B.gb n c e) * B.ks n = ∑ r, ∑ t, B.rgb n t r e * B.rpb n r t s := by
    rw [sum_col, h.sum_mul]
    refine Finset.sum_congr rfl fun r _ => ?_
    rw [h.sum_mul]
    refine Finset.sum_congr rfl fun t _ => ?_
    simp only [pb, gb, rgb, rpb, qsc, hd_col, tk_col]
    split
    · ac_rfl
    · simp
  have h2 : (∑ d, B.k d (pos n s) * B.D n d e) * B.ks n = ∑ d, B.rD n d e * B.rkb n s d := by
    rw [h.sum_mul]
    refine Finset.sum_congr rfl fun d _ => ?_
    rw [rD_eq, rkb]
    ac_rfl
  rw [dvk, rdv, h.add_mul, h1, h2, add_comm, mul_comm]

/-- On a lane that is no token of chunk `n`, that chunk adds nothing to the keys' gradient. -/
theorem G_zero (n : Fin 4) (d : Fin 192) (l : Fin 128) (h : ∀ t, ¬ Own n t l) : B.G n d l = 0 := by
  rw [G]; exact Finset.sum_eq_zero fun c _ => by rw [ab, if_neg (h _), mul_zero]

/-- The gradient of the keys, from the chunk and the later ones. -/
theorem dk_eq (n : Fin 4) (s : Fin 64) (d : Fin 192) (h : IsScale (B.vs n)) :
    (B.G n d (ln n s) + B.H n d (pos n s)) * B.vs n * sm = B.rdk n s d := by
  have h1 : B.G n d (ln n s) * B.vs n = ∑ r, ∑ t, B.rqb n t r d * B.rab n r t s := by
    rw [G, sum_col, h.sum_mul]
    refine Finset.sum_congr rfl fun r _ => ?_
    rw [h.sum_mul]
    refine Finset.sum_congr rfl fun t _ => ?_
    rw [← ab_mul]
    simp only [qb, rqb, qsc, hd_col, tk_col]
    ac_rfl
  have h2 : B.H n d (pos n s) * B.vs n = ∑ e, B.rD n d e * B.rvb n s e := by
    rw [H, h.sum_mul]
    refine Finset.sum_congr rfl fun e _ => ?_
    rw [rD_eq, rvb]
    ac_rfl
  rw [rdk, h.add_mul, h1, h2, add_comm, mul_comm]

/-- The first chunk of a half. -/
theorem dkk_lo (m : Fin 2) (n₀ n₁ : Fin 4) (d : Fin 192) (l : Fin 128) (hn₀ : n₀.val = 2 * m.val) (hn₁ : n₁.val = 2 * m.val + 1)
    (hl : l.val < 64) : B.dkk m n₀ n₁ d l = (B.G n₀ d l + B.H n₀ d (lane m l)) * B.vs n₀ * sm := by
  rw [dkk, B.G_zero n₁ d l fun t => by unfold Own; omega]
  simp only [if_pos hl, add_zero, zero_add]
/-- The second chunk of a half. -/
theorem dkk_hi (m : Fin 2) (n₀ n₁ : Fin 4) (d : Fin 192) (l : Fin 128) (hn₀ : n₀.val = 2 * m.val) (hn₁ : n₁.val = 2 * m.val + 1)
    (hl : ¬ l.val < 64) : B.dkk m n₀ n₁ d l = (B.G n₁ d l + B.H n₁ d (lane m l)) * B.vs n₁ * sm := by
  rw [dkk, B.G_zero n₀ d l fun t => by unfold Own; omega]
  simp only [if_neg hl, add_zero]

theorem dkk_eq (m : Fin 2) (n₀ n₁ n : Fin 4) (d : Fin 192) (l : Fin 128) (s : Fin 64) (hn₀ : n₀.val = 2 * m.val)
    (hn₁ : n₁.val = 2 * m.val + 1) (hs : 64 * n.val + s.val = 128 * m.val + l.val) (h : IsScale (B.vs n)) :
    B.dkk m n₀ n₁ d l = B.rdk n s d := by
  have e1 : lane m l = pos n s := Fin.ext (by simp only [lane, pos]; omega)
  have e2 : l = ln n s := Fin.ext (by simp only [ln]; omega)
  rw [← B.dk_eq n s d h]
  by_cases hl : l.val < 64
  · rw [B.dkk_lo m n₀ n₁ d l hn₀ hn₁ hl, e1, ← e2, show n₀ = n from Fin.ext (by omega)]
  · rw [B.dkk_hi m n₀ n₁ d l hn₀ hn₁ hl, e1, ← e2, show n₁ = n from Fin.ext (by omega)]
end Blk

/-! The equality of the two programs' gradients, entry by entry. -/

theorem DQ_eq (B : Blk) (r : Fin 7) (d : Fin 192) (s : Fin 256) (h : IsScale (B.ds r s)) :
    DQ B r d s = B.rdq (chk s) (tok s) r d := by
  have := B.dq_eq (chk s) (tok s) r d (by rwa [pos_chk])
  rwa [pos_chk] at this
theorem DV_eq (B : Blk) (s : Fin 256) (e : Fin 384) (h : IsScale (B.ks (chk s))) :
    DV B s e = B.rdv (chk s) (tok s) e := B.dv_eq _ _ _ h
theorem DK_eq (B : Blk) (d : Fin 192) (s : Fin 256) (h : IsScale (B.vs (chk s))) :
    DK B d s = B.rdk (chk s) (tok s) d := by
  unfold DK
  split
  · exact B.dkk_eq 0 0 1 _ d _ _ rfl rfl (by simp only [chk, tok]; simp; omega) h
  · exact B.dkk_eq 1 2 3 _ d _ _ rfl rfl (by simp only [chk, tok]; simp; omega) h
-- ==== Proof.RefAt.lean ====
module
public import proofs.«01_k».proof.Proof.Cumsum
public import proofs.«01_k».proof.Proof.Equation

/-!
The reference's intermediate tensors, entry by entry, and
its three results as the closed forms of a block.
-/
@[expose] public section
set_option maxRecDepth 16384
noncomputable section
namespace Cert.ReferenceIdeal.Val
open Idealize.ShloMosaic Idealize.ShloMosaic.TcCoe Idealize.SL.Sem
open Cert.ReferenceIdeal Cert.ReferenceIdeal.Gen

variable (xq : FVec Ideal S6x256x14x192 .bf16) (xk : FVec Ideal S6x256x2x192 .bf16) (xv : FVec Ideal S6x256x2x384 .bf16)
  (xg : FVec Ideal S6x256x14x384 .bf16) (yq : FVec Ideal S6x4x14 .f32) (yk yv : FVec Ideal S6x4x2 .f32) (yg : FVec Ideal S6x256x14 .f32)

/-- The reference's arguments, the codes as the casts leave them, as plain functions. -/
def rarr : Arr where
  q b s h d := xq (ix4 b s h d)
  qs b n h := yq (ix3 b n h)
  k b s g d := xk (ix4 b s g d)
  ks b n g := yk (ix3 b n g)
  v b s g e := xv (ix4 b s g e)
  vs b n g := yv (ix3 b n g)
  g b s h e := xg (ix4 b s h e)
  ds b s h := yg (ix3 b s h)

/-- The data of batch row `b` and key/value head `g`. -/
abbrev rB (b : Fin 6) (g : Fin 2) : Blk := (rarr xq xk xv xg yq yk yv yg).blk b g

theorem mk_pos (n : Fin 4) (t : Fin 64) (h) : (⟨n.val * 64 + t.val, h⟩ : Fin 256) = pos n t := Fin.ext (by simp only [pos]; omega)
theorem mk_hq (g : Fin 2) (r : Fin 7) (h) : (⟨g.val * 7 + r.val, h⟩ : Fin 14) = hq g r := Fin.ext (by simp only [hq]; omega)

variable (b : Fin 6) (n : Fin 4) (t s : Fin 64) (g : Fin 2) (r : Fin 7) (d : Fin 192) (e : Fin 384)

theorem q6_at : q6 xq (ix6 b n t g r d) = (rB xq xk xv xg yq yk yv yg b g).q r d (pos n t) := by
  pointwise [q6]
  simp only [mk_pos, mk_hq]; rfl
theorem k5_at : k5 xk (ix5 b n t g d) = (rB xq xk xv xg yq yk yv yg b g).k d (pos n t) := by
  pointwise [k5]
  simp only [mk_pos, mk_hq]; rfl
theorem v5_at : v5 xv (ix5 b n t g e) = (rB xq xk xv xg yq yk yv yg b g).v (pos n t) e := by
  pointwise [v5]
  simp only [mk_pos, mk_hq]; rfl
theorem g6_at : g6 xg (ix6 b n t g r e) = (rB xq xk xv xg yq yk yv yg b g).g r (pos n t) e := by
  pointwise [g6]
  simp only [mk_pos, mk_hq]; rfl
theorem qs4_at : qs4 yq (ix4 b n g r) = (rB xq xk xv xg yq yk yv yg b g).qs n r := by
  pointwise [qs4]
  simp only [mk_pos, mk_hq]; rfl
theorem ds5_at : ds5 yg (ix5 b n t g r) = (rB xq xk xv xg yq yk yv yg b g).ds r (pos n t) := by
  pointwise [ds5]
  simp only [mk_pos, mk_hq]; rfl

theorem qb_at : qb xq yq (ix6 b n t g r d) = (rB xq xk xv xg yq yk yv yg b g).rqb n t r d := by
  pointwise [qb]
  rw [q6_at xq xk xv xg yq yk yv yg, qs4_at xq xk xv xg yq yk yv yg]; rfl
theorem kb_at : kb xk yk (ix5 b n t g d) = (rB xq xk xv xg yq yk yv yg b g).rkb n t d := by
  pointwise [kb]
  rw [k5_at xq xk xv xg yq yk yv yg]; rfl
theorem vb_at : vb xv yv (ix5 b n t g e) = (rB xq xk xv xg yq yk yv yg b g).rvb n t e := by
  pointwise [vb]
  rw [v5_at xq xk xv xg yq yk yv yg]; rfl
theorem gb_at : gb xg yg (ix6 b n t g r e) = (rB xq xk xv xg yq yk yv yg b g).rgb n t r e := by
  pointwise [gb]
  rw [g6_at xq xk xv xg yq yk yv yg, ds5_at xq xk xv xg yq yk yv yg]; rfl

theorem u_at : u xk xv yk yv (ix5 b n g d e) = (rB xq xk xv xg yq yk yv yg b g).U n d e := by
  pointwise [u]
  simp only [k5_at xq xk xv xg yq yk yv yg, v5_at xq xk xv xg yq yk yv yg]; rfl
theorem w_at : w (qb xq yq) (gb xg yg) (ix5 b n g d e) = (rB xq xk xv xg yq yk yv yg b g).rw n d e := by
  pointwise [w]
  simp only [qb_at xq xk xv xg yq yk yv yg, gb_at xq xk xv xg yq yk yv yg, Blk.rw]
theorem S_at : sF (u xk xv yk yv) (ix5 b n g d e) = (rB xq xk xv xg yq yk yv yg b g).S n d e :=
  sF_at b g d e _ n _ fun n => u_at xq xk xv xg yq yk yv yg b n g d e
theorem D_at : sB (w (qb xq yq) (gb xg yg)) (ix5 b n g d e) = (rB xq xk xv xg yq yk yv yg b g).rD n d e :=
  sB_at b g d e _ n _ fun n => w_at xq xk xv xg yq yk yv yg b n g d e

theorem tri_at : tri (ix2 t s) = if s.val ≤ t.val then 1#1 else 0#1 := by
  pointwise [tri]
  have key : ∀ t s : Fin 64, Scalar.select (IntOp.cmpi CmpIPredicate.sge (IntOp.addi (BitVec.ofNat 32 t.val) 0#32) (BitVec.ofNat 32 s.val)) 1#1 0#1
      = if s.val ≤ t.val then 1#1 else 0#1 := by decide +kernel
  exact key t s
theorem ab_at : ab xg xv yg yv (ix6 b n g r t s) = (rB xq xk xv xg yq yk yv yg b g).rab n r t s := by
  pointwise [ab, masked]
  rw [tri_at, sel_ite]
  simp only [v5_at xq xk xv xg yq yk yv yg, g6_at xq xk xv xg yq yk yv yg, ds5_at xq xk xv xg yq yk yv yg]; rfl
theorem pb_at : pb xq xk yq yk (ix6 b n g r t s) = (rB xq xk xv xg yq yk yv yg b g).rpb n r t s := by
  pointwise [pb, masked]
  rw [tri_at, sel_ite]
  simp only [k5_at xq xk xv xg yq yk yv yg, q6_at xq xk xv xg yq yk yv yg, qs4_at xq xk xv xg yq yk yv yg]; rfl

variable (p : Fin 256) (h : Fin 14)

/-- The reference's first result. -/
theorem dq_at : dq (sF (u xk xv yk yv)) (gb xg yg) (kb xk yk) (ab xg xv yg yv) (ix4 b p h d)
    = (rB xq xk xv xg yq yk yv yg b (hg h)).rdq (chk p) (tok p) (hr h) d := by
  pointwise [dq]
  simp only [S_at xq xk xv xg yq yk yv yg, gb_at xq xk xv xg yq yk yv yg, kb_at xq xk xv xg yq yk yv yg, ab_at xq xk xv xg yq yk yv yg]
  rfl
/-- The reference's second result. -/
theorem dk_at : dk (sB (w (qb xq yq) (gb xg yg))) (vb xv yv) (qb xq yq) (ab xg xv yg yv) (ix4 b p g d)
    = (rB xq xk xv xg yq yk yv yg b g).rdk (chk p) (tok p) d := by
  pointwise [dk]
  simp only [D_at xq xk xv xg yq yk yv yg, qb_at xq xk xv xg yq yk yv yg, vb_at xq xk xv xg yq yk yv yg, ab_at xq xk xv xg yq yk yv yg]
  rfl
/-- The reference's third result. -/
theorem dv_at : dv (sB (w (qb xq yq) (gb xg yg))) (kb xk yk) (gb xg yg) (pb xq xk yq yk) (ix4 b p g e)
    = (rB xq xk xv xg yq yk yv yg b g).rdv (chk p) (tok p) e := by
  pointwise [dv]
  simp only [D_at xq xk xv xg yq yk yv yg, gb_at xq xk xv xg yq yk yv yg, kb_at xq xk xv xg yq yk yv yg, pb_at xq xk xv xg yq yk yv yg]
  rfl
end Cert.ReferenceIdeal.Val
-- ==== Proof.RefRun.lean ====
module
public import proofs.«01_k».proof.Proof.RefAt

/-!
The run of the reference: what the casts leave in their four arrays, and the three results.
-/
@[expose] public section
set_option maxRecDepth 16384
noncomputable section
namespace Cert.ReferenceIdeal.Val
open Idealize.ShloMosaic Idealize.ShloMosaic.TcCoe Idealize.SL.Sem
open Idealize.ShloMosaic.Pipeline (Dat)
open Cert.ReferenceIdeal Cert.ReferenceIdeal.Gen

variable (m : (ℓ : Loc nD τ sig) → Buf (Elt Ideal) ℓ) (c : Dev nD)

/-- The operations after the casts. -/
abbrev TAILS : List (List (HloOp τ sig (Elt Ideal))) := [hostOps1, hostOps1_1, hostOps1_2, hostOps1_3, hostOps1_4, hostOps1_5, hostOps1_6, hostOps1_7, hostOps1_8, hostOps1_9, hostOps1_10, hostOps1_11, hostOps1_12, hostOps1_13, hostOps1_14]

/-- The casts' array 0 holds the codes of argument 0. -/
theorem arr4 : (dats m 0 c).arrAt 4 (cfgs 0).N = k0_pay1 (m ((c : Thread nD τ).loc main_arg0)) := by
  refine (dats m 0 c).arrAt_eq_of_covers 4 _ (by decide +kernel) fun t hf y => ?_
  blk_simp
  rw [after0_4]
  frame_out
  blk_point [iblk, V]
  all_goals rfl

/-- The casts' array 1 holds the codes of argument 2. -/
theorem arr5 : (dats m 0 c).arrAt 5 (cfgs 0).N = k0_pay2 (m ((c : Thread nD τ).loc main_arg2)) := by
  refine (dats m 0 c).arrAt_eq_of_covers 5 _ (by decide +kernel) fun t hf y => ?_
  blk_simp
  rw [after0_5]
  frame_out
  blk_point [iblk, V]
  all_goals rfl

/-- The casts' array 2 holds the codes of argument 4. -/
theorem arr6 : (dats m 0 c).arrAt 6 (cfgs 0).N = k0_pay3 (m ((c : Thread nD τ).loc main_arg4)) := by
  refine (dats m 0 c).arrAt_eq_of_covers 6 _ (by decide +kernel) fun t hf y => ?_
  blk_simp
  rw [after0_6]
  frame_out
  blk_point [iblk, V]
  all_goals rfl

/-- The casts' array 3 holds the codes of argument 6. -/
theorem arr7 : (dats m 0 c).arrAt 7 (cfgs 0).N = k0_pay4 (m ((c : Thread nD τ).loc main_arg6)) := by
  refine (dats m 0 c).arrAt_eq_of_covers 7 _ (by decide +kernel) fun t hf y => ?_
  blk_simp
  rw [after0_7]
  frame_out
  blk_point [iblk, V]
  all_goals rfl

/-- The buffers after the casts. -/
abbrev RW : (b : DevRef τ sig) → b.ty.Contents (Elt Ideal) :=
  Pipeline.withArrays (cfgs 0).spec c (V0 m c) fun w => (dats m 0 c).arrAt w (cfgs 0).N

theorem cq_eq : cq (RW m c) = k0_pay1 (m ((c : Thread nD τ).loc main_arg0)) :=
  (Pipeline.withArrays_arr (cfgs 0).spec (by decide) c (V0 m c) (fun w => (dats m 0 c).arrAt w (cfgs 0).N) 4).trans (arr4 m c)

theorem ck_eq : ck (RW m c) = k0_pay2 (m ((c : Thread nD τ).loc main_arg2)) :=
  (Pipeline.withArrays_arr (cfgs 0).spec (by decide) c (V0 m c) (fun w => (dats m 0 c).arrAt w (cfgs 0).N) 5).trans (arr5 m c)

theorem cv_eq : cv (RW m c) = k0_pay3 (m ((c : Thread nD τ).loc main_arg4)) :=
  (Pipeline.withArrays_arr (cfgs 0).spec (by decide) c (V0 m c) (fun w => (dats m 0 c).arrAt w (cfgs 0).N) 6).trans (arr6 m c)

theorem cg_eq : cg (RW m c) = k0_pay4 (m ((c : Thread nD τ).loc main_arg6)) :=
  (Pipeline.withArrays_arr (cfgs 0).spec (by decide) c (V0 m c) (fun w => (dats m 0 c).arrAt w (cfgs 0).N) 7).trans (arr7 m c)

theorem cqs_eq : cqs (RW m c) = m ((c : Thread nD τ).loc main_arg1) :=
  Pipeline.withArrays_of_ne (cfgs 0).spec c (V0 m c) (fun w => (dats m 0 c).arrAt w (cfgs 0).N) main_arg1 (by decide)

theorem cks_eq : cks (RW m c) = m ((c : Thread nD τ).loc main_arg3) :=
  Pipeline.withArrays_of_ne (cfgs 0).spec c (V0 m c) (fun w => (dats m 0 c).arrAt w (cfgs 0).N) main_arg3 (by decide)

theorem cvs_eq : cvs (RW m c) = m ((c : Thread nD τ).loc main_arg5) :=
  Pipeline.withArrays_of_ne (cfgs 0).spec c (V0 m c) (fun w => (dats m 0 c).arrAt w (cfgs 0).N) main_arg5 (by decide)

theorem cds_eq : cds (RW m c) = m ((c : Thread nD τ).loc main_arg7) :=
  Pipeline.withArrays_of_ne (cfgs 0).spec c (V0 m c) (fun w => (dats m 0 c).arrAt w (cfgs 0).N) main_arg7 (by decide)

set_option maxHeartbeats 8000000 in
theorem tailW_arg1 (W : (b : DevRef τ sig) → b.ty.Contents (Elt Ideal)) :
    StableHlo.after TAIL W (Proc.devRef .tc main_arg1) = W (Proc.devRef .tc main_arg1) := by
  unfold TAIL
  after_reads_simp

theorem tail_arg1 : Pipeline.afterTail₀ cfgs (dats m) 0 (V0 m) TAILS c main_arg1 = m ((c : Thread nD τ).loc main_arg1) :=
  (tailW_arg1 (RW m c)).trans (cqs_eq m c)

set_option maxHeartbeats 8000000 in
theorem tailW_arg3 (W : (b : DevRef τ sig) → b.ty.Contents (Elt Ideal)) :
    StableHlo.after TAIL W (Proc.devRef .tc main_arg3) = W (Proc.devRef .tc main_arg3) := by
  unfold TAIL
  after_reads_simp

theorem tail_arg3 : Pipeline.afterTail₀ cfgs (dats m) 0 (V0 m) TAILS c main_arg3 = m ((c : Thread nD τ).loc main_arg3) :=
  (tailW_arg3 (RW m c)).trans (cks_eq m c)

set_option maxHeartbeats 8000000 in
theorem tailW_arg5 (W : (b : DevRef τ sig) → b.ty.Contents (Elt Ideal)) :
    StableHlo.after TAIL W (Proc.devRef .tc main_arg5) = W (Proc.devRef .tc main_arg5) := by
  unfold TAIL
  after_reads_simp

theorem tail_arg5 : Pipeline.afterTail₀ cfgs (dats m) 0 (V0 m) TAILS c main_arg5 = m ((c : Thread nD τ).loc main_arg5) :=
  (tailW_arg5 (RW m c)).trans (cvs_eq m c)

set_option maxHeartbeats 8000000 in
theorem tailW_arg7 (W : (b : DevRef τ sig) → b.ty.Contents (Elt Ideal)) :
    StableHlo.after TAIL W (Proc.devRef .tc main_arg7) = W (Proc.devRef .tc main_arg7) := by
  unfold TAIL
  after_reads_simp

theorem tail_arg7 : Pipeline.afterTail₀ cfgs (dats m) 0 (V0 m) TAILS c main_arg7 = m ((c : Thread nD τ).loc main_arg7) :=
  (tailW_arg7 (RW m c)).trans (cds_eq m c)

/-- The eight arguments as the mathematics reads them. -/
def rarr0 : Arr :=
  rarr (k0_pay1 (m ((c : Thread nD τ).loc main_arg0))) (k0_pay2 (m ((c : Thread nD τ).loc main_arg2)))
    (k0_pay3 (m ((c : Thread nD τ).loc main_arg4))) (k0_pay4 (m ((c : Thread nD τ).loc main_arg6)))
    (m ((c : Thread nD τ).loc main_arg1)) (m ((c : Thread nD τ).loc main_arg3))
    (m ((c : Thread nD τ).loc main_arg5)) (m ((c : Thread nD τ).loc main_arg7))

set_option maxHeartbeats 4000000 in
/-- The result `dq` of the reference at an index. -/
theorem res_dq (b : Fin 6) (p : Fin 256) (h : Fin 14) (d : Fin 192) :
    (Pipeline.afterTail₀ cfgs (dats m) 0 (V0 m) TAILS c main_v78 : Vec Ideal S6x256x14x192 .bf16) (ix4 b p h d) = ((rarr0 m c).blk b (hg h)).rdq (chk p) (tok p) (hr h) d := by
  have e : Pipeline.afterTail₀ cfgs (dats m) 0 (V0 m) TAILS c main_v78 = _ := tail78 (RW m c)
  rw [e, ck_eq, cv_eq, cg_eq, cks_eq, cvs_eq, cds_eq]
  exact dq_at (b := b) (p := p) (h := h) (d := d) ..

set_option maxHeartbeats 4000000 in
/-- The result `dk` of the reference at an index. -/
theorem res_dk (b : Fin 6) (p : Fin 256) (h : Fin 2) (d : Fin 192) :
    (Pipeline.afterTail₀ cfgs (dats m) 0 (V0 m) TAILS c main_v82 : Vec Ideal S6x256x2x192 .bf16) (ix4 b p h d) = ((rarr0 m c).blk b h).rdk (chk p) (tok p) d := by
  have e : Pipeline.afterTail₀ cfgs (dats m) 0 (V0 m) TAILS c main_v82 = _ := tail82 (RW m c)
  rw [e, cq_eq, cv_eq, cg_eq, cqs_eq, cvs_eq, cds_eq]
  exact dk_at (b := b) (p := p) (g := h) (d := d) ..

set_option maxHeartbeats 4000000 in
/-- The result `dv` of the reference at an index. -/
theorem res_dv (b : Fin 6) (p : Fin 256) (h : Fin 2) (d : Fin 384) :
    (Pipeline.afterTail₀ cfgs (dats m) 0 (V0 m) TAILS c main_v86 : Vec Ideal S6x256x2x384 .bf16) (ix4 b p h d) = ((rarr0 m c).blk b h).rdv (chk p) (tok p) d := by
  have e : Pipeline.afterTail₀ cfgs (dats m) 0 (V0 m) TAILS c main_v86 = _ := tail86 (RW m c)
  rw [e, cq_eq, ck_eq, cg_eq, cqs_eq, cks_eq, cds_eq]
  exact dv_at (b := b) (p := p) (g := h) (e := d) ..

end Cert.ReferenceIdeal.Val
-- ==== Proof.Pre.lean ====
module
public import proofs.«01_k».proof.Pre_scales_nonneg_finite
public import proofs.«01_k».proof.Proof.Equation

/-!
The precondition, read entry by entry: every scale of the keys, of the values and of the incoming
gradient is a number between zero and infinity, infinity excluded.
-/
@[expose] public section
set_option maxRecDepth 16384
noncomputable section
namespace Cert.Pre_scales_nonneg_finite.Val
open Idealize.ShloMosaic
open Cert.Pre_scales_nonneg_finite

/-- The constant of the second comparison is infinity. -/
theorem inf_eq : Ideal.ofBits FTy.f32 2139095040#32 = (⊤ : EReal) := by
  simp [Ideal.ofBits, Ideal.ieee]

/-- The two comparisons of the precondition at an entry. -/
theorem scale_of {x : EReal}
    (e : IntOp.andi (BitVec.ofBool (decide (0 ≤ x))) (BitVec.ofBool (decide (x < Ideal.ofBits FTy.f32 2139095040#32))) = 1#1) :
    IsScale x := by
  rw [inf_eq] at e
  by_cases h1 : 0 ≤ x <;> by_cases h2 : x < ⊤ <;> simp [h1, h2, IntOp.andi] at e
  exact ⟨h1, h2⟩

variable [Facts]
variable (x0 : FVec Ideal S6x256x14x192 .fp8e4m3) (x1 : FVec Ideal S6x4x14 .f32) (x2 : FVec Ideal S6x256x2x192 .fp8e4m3)
  (x3 : FVec Ideal S6x4x2 .f32) (x4 : FVec Ideal S6x256x2x384 .fp8e4m3) (x5 : FVec Ideal S6x4x2 .f32)
  (x6 : FVec Ideal S6x256x14x384 .fp8e5m2) (x7 : FVec Ideal S6x256x14 .f32)

/-- Under the precondition every scale of a key is a scale. -/
theorem ks_at (h : fn (F := Ideal) x0 x1 x2 x3 x4 x5 x6 x7 = fun _ => 1#1) (b : Fin 6) (n : Fin 4) (g : Fin 2) :
    IsScale (x3 (ix3 b n g)) := by
  have e := congrFun h (ix1 (⟨0 + (8 * b.val + 2 * n.val + g.val), by omega⟩ : Fin 21600))
  revert e
  pointwise [fn]
  intro e
  rw [dif_pos (by omega)] at e
  convert scale_of e using 3 <;> (apply Fin.ext; simp only []; omega)

/-- Under the precondition every scale of a value is a scale. -/
theorem vs_at (h : fn (F := Ideal) x0 x1 x2 x3 x4 x5 x6 x7 = fun _ => 1#1) (b : Fin 6) (n : Fin 4) (g : Fin 2) :
    IsScale (x5 (ix3 b n g)) := by
  have e := congrFun h (ix1 (⟨48 + (8 * b.val + 2 * n.val + g.val), by omega⟩ : Fin 21600))
  revert e
  pointwise [fn]
  intro e
  rw [dif_pos (by omega)] at e
  convert scale_of e using 3 <;> (apply Fin.ext; simp only []; omega)

/-- Under the precondition every scale of the incoming gradient is a scale. -/
theorem ds_at (h : fn (F := Ideal) x0 x1 x2 x3 x4 x5 x6 x7 = fun _ => 1#1) (b : Fin 6) (s : Fin 256) (g : Fin 14) :
    IsScale (x7 (ix3 b s g)) := by
  have e := congrFun h (ix1 (⟨96 + (3584 * b.val + 14 * s.val + g.val), by omega⟩ : Fin 21600))
  revert e
  pointwise [fn]
  intro e
  rw [dif_neg (by omega), dif_neg (by omega)] at e
  convert scale_of e using 3 <;> (apply Fin.ext; simp only []; omega)
end Cert.Pre_scales_nonneg_finite.Val
-- ==== Proof.Agree.lean ====
module
public import proofs.«01_k».proof.Defs
public import proofs.«01_k».proof.Proof.Ker
public import proofs.«01_k».proof.Proof.RefRun
public import proofs.«01_k».proof.Proof.Pre

/-!
The kernel's program and the reference leave the same three results, from arguments that agree and
whose scales satisfy the precondition.
-/
@[expose] public section
set_option maxRecDepth 16384
noncomputable section
namespace Cert.Agree
open Idealize.ShloMosaic Idealize.ShloMosaic.TcCoe Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The two memories hold the same arguments. -/
def Args (c : Dev KernelIdeal.nD) : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)
  ∧ m' ((c.tc : Thread ReferenceIdeal.nD ReferenceIdeal.τ).loc ReferenceIdeal.main_arg5) = m ((c.tc : Thread KernelIdeal.nD KernelIdeal.τ).loc KernelIdeal.main_arg5)
  ∧ m' ((c.tc : Thread ReferenceIdeal.nD ReferenceIdeal.τ).loc ReferenceIdeal.main_arg6) = m ((c.tc : Thread KernelIdeal.nD KernelIdeal.τ).loc KernelIdeal.main_arg6)
  ∧ m' ((c.tc : Thread ReferenceIdeal.nD ReferenceIdeal.τ).loc ReferenceIdeal.main_arg7) = m ((c.tc : Thread KernelIdeal.nD KernelIdeal.τ).loc KernelIdeal.main_arg7)

variable {m m'} {c : Dev KernelIdeal.nD}

/-- Both programs read the same arguments. -/
theorem arr_eq (h : Args m m' c) : ReferenceIdeal.Val.rarr0 m' c = KernelIdeal.Val.arr m c := by
  obtain ⟨h0, h1, h2, h3, h4, h5, h6, h7⟩ := h
  unfold ReferenceIdeal.Val.rarr0
  rw [h0, h1, h2, h3, h4, h5, h6, h7]
  rfl

variable [Pre_scales_nonneg_finite.Facts]

theorem ks_scale (hp : Pre_KernelIdeal_scales_nonneg_finite m) (b : Fin 6) (n : Fin 4) (g : Fin 2) :
    IsScale ((KernelIdeal.Val.arr m c).ks b n g) := Pre_scales_nonneg_finite.Val.ks_at _ _ _ _ _ _ _ _ (hp c) b n g
theorem vs_scale (hp : Pre_KernelIdeal_scales_nonneg_finite m) (b : Fin 6) (n : Fin 4) (g : Fin 2) :
    IsScale ((KernelIdeal.Val.arr m c).vs b n g) := Pre_scales_nonneg_finite.Val.vs_at _ _ _ _ _ _ _ _ (hp c) b n g
theorem ds_scale (hp : Pre_KernelIdeal_scales_nonneg_finite m) (b : Fin 6) (s : Fin 256) (h : Fin 14) :
    IsScale ((KernelIdeal.Val.arr m c).ds b s h) := Pre_scales_nonneg_finite.Val.ds_at _ _ _ _ _ _ _ _ (hp c) b s h

/-- The gradient of the queries is the same array in both programs. -/
theorem dq_agree (h : Args m m' c) (hp : Pre_KernelIdeal_scales_nonneg_finite m) :
    (Pipeline.afterTail₀ ReferenceIdeal.cfgs (ReferenceIdeal.Gen.dats m') 0 (ReferenceIdeal.Gen.V0 m') ReferenceIdeal.Val.TAILS c ReferenceIdeal.main_v78 : Vec Ideal KernelIdeal.S6x256x14x192 .bf16)
      = Pipeline.afterTail₀ KernelIdeal.cfgs (KernelIdeal.Gen.dats m) 0 (KernelIdeal.Gen.V0 m) [KernelIdeal.Gen.hostOps1] c KernelIdeal.main_v8 := by
  funext i
  rw [eq_ix4 i]
  refine (ReferenceIdeal.Val.res_dq m' c (i 0) (i 1) (i 2) (i 3)).trans ?_
  refine Eq.trans ?_ (KernelIdeal.Val.res_dq m c (i 0) (i 1) (i 2) (i 3)).symm
  rw [arr_eq h]
  exact (DQ_eq _ _ _ _ (ds_scale hp _ _ _)).symm
/-- The gradient of the keys is the same array in both programs. -/
theorem dk_agree (h : Args m m' c) (hp : Pre_KernelIdeal_scales_nonneg_finite m) :
    (Pipeline.afterTail₀ ReferenceIdeal.cfgs (ReferenceIdeal.Gen.dats m') 0 (ReferenceIdeal.Gen.V0 m') ReferenceIdeal.Val.TAILS c ReferenceIdeal.main_v82 : Vec Ideal KernelIdeal.S6x256x2x192 .bf16)
      = Pipeline.afterTail₀ KernelIdeal.cfgs (KernelIdeal.Gen.dats m) 0 (KernelIdeal.Gen.V0 m) [KernelIdeal.Gen.hostOps1] c KernelIdeal.main_v9 := by
  funext i
  rw [eq_ix4 i]
  refine (ReferenceIdeal.Val.res_dk m' c (i 0) (i 1) (i 2) (i 3)).trans ?_
  refine Eq.trans ?_ (KernelIdeal.Val.res_dk m c (i 0) (i 1) (i 2) (i 3)).symm
  rw [arr_eq h]
  exact (DK_eq _ _ _ (vs_scale hp _ _ _)).symm
/-- The gradient of the values is the same array in both programs. -/
theorem dv_agree (h : Args m m' c) (hp : Pre_KernelIdeal_scales_nonneg_finite m) :
    (Pipeline.afterTail₀ ReferenceIdeal.cfgs (ReferenceIdeal.Gen.dats m') 0 (ReferenceIdeal.Gen.V0 m') ReferenceIdeal.Val.TAILS c ReferenceIdeal.main_v86 : Vec Ideal KernelIdeal.S6x256x2x384 .bf16)
      = Pipeline.afterTail₀ KernelIdeal.cfgs (KernelIdeal.Gen.dats m) 0 (KernelIdeal.Gen.V0 m) [KernelIdeal.Gen.hostOps1] c KernelIdeal.main_v10 := by
  funext i
  rw [eq_ix4 i]
  refine (ReferenceIdeal.Val.res_dv m' c (i 0) (i 1) (i 2) (i 3)).trans ?_
  refine Eq.trans ?_ (KernelIdeal.Val.res_dv m c (i 0) (i 1) (i 2) (i 3)).symm
  rw [arr_eq h]
  exact (DV_eq _ _ _ (ks_scale hp _ _ _)).symm
end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_scales_nonneg_finite
public import proofs.«01_k».proof.Proof.Agree
public import Idealize.ShloMosaic.Adequacy
public import Idealize.ShloMosaic.Init

@[expose] public section

noncomputable section

namespace Cert.Proof

open Idealize.ShloMosaic Idealize.SL.Sem Cert.Kernel

set_option maxHeartbeats 4000000 in
/-- From arguments that agree, with nonnegative finite scales, the kernel's program and the reference
    both run, and leave the same three results. -/
theorem algebraic [hP : Cert.Pre_scales_nonneg_finite.Facts] :
    Cert.algebraic_KernelIdeal_ReferenceIdeal_pre_scales_nonneg_finite (hKernelIdeal := Cert.KernelIdeal.Gen.facts)
      (hReferenceIdeal := Cert.ReferenceIdeal.Gen.facts) (hPre_scales_nonneg_finite := hP) := by
  pair_intro
  · run_from Cert.KernelIdeal.Gen.run_main m g
    · exact Cert.KernelIdeal.Val.tail_arg0 m c
    · exact Cert.KernelIdeal.Val.tail_arg2 m c
    · exact Cert.KernelIdeal.Val.tail_arg3 m c
    · exact Cert.KernelIdeal.Val.tail_arg4 m c
    · exact Cert.KernelIdeal.Val.tail_arg5 m c
    · exact Cert.KernelIdeal.Val.tail_arg6 m c
    · exact Cert.KernelIdeal.Val.tail_arg7 m c
  · run_from Cert.ReferenceIdeal.Gen.run_main m' g'
    · exact Cert.Agree.dq_agree (hagree c) hpre
    · exact Cert.Agree.dk_agree (hagree c) hpre
    · exact Cert.Agree.dv_agree (hagree c) hpre
    · exact (Cert.ReferenceIdeal.Val.tail_arg1 m' c).trans (hagree c).2.1
    · exact (Cert.ReferenceIdeal.Val.tail_arg3 m' c).trans (hagree c).2.2.2.1
    · exact (Cert.ReferenceIdeal.Val.tail_arg5 m' c).trans (hagree c).2.2.2.2.2.1
    · exact (Cert.ReferenceIdeal.Val.tail_arg7 m' c).trans (hagree c).2.2.2.2.2.2.2

theorem claim : Cert.Claim := ⟨Cert.Kernel.Gen.facts, Cert.KernelIdeal.Gen.facts, Cert.ReferenceIdeal.Gen.facts, Cert.Pre_scales_nonneg_finite.Gen.facts,
  fun m g _ => Cert.Kernel.Gen.frame m g, fun m g _ => Cert.KernelIdeal.Gen.frame m g, fun m g _ => Cert.KernelIdeal.Gen.frame m g,
  fun m g _ => Cert.ReferenceIdeal.Gen.frame m g, fun m g _ => Cert.ReferenceIdeal.Gen.frame m g, trivial,
  algebraic (hP := Cert.Pre_scales_nonneg_finite.Gen.facts)⟩

end Cert.Proof

end
